-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))).1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))).2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10))).1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v20) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v30) = v0 c
          ∧ r.2.mem ((c.tc : Thread Cert.MemKvRefIdeal.nD Cert.MemKvRefIdeal.τ).loc Cert.MemKvRefIdeal.main_v32) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v9)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v82) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v113_0)) (v1 : (c : Dev Cert.MixIdeal.nD) → Buf (Elt Ideal) ((c.tc : Thread Cert.MixIdeal.nD Cert.MixIdeal.τ).loc Cert.MixIdeal.main_v113_1)) (v2 : (c : Dev Cert.MixIdeal.nD) → Buf (Elt Ideal) ((c.tc : Thread Cert.MixIdeal.nD Cert.MixIdeal.τ).loc Cert.MixIdeal.main_v113_2)) (v3 : (c : Dev Cert.MixIdeal.nD) → Buf (Elt Ideal) ((c.tc : Thread Cert.MixIdeal.nD Cert.MixIdeal.τ).loc Cert.MixIdeal.main_v113_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v113_0) = v0 c
          ∧ r.2.mem ((c.tc : Thread Cert.MixIdeal.nD Cert.MixIdeal.τ).loc Cert.MixIdeal.main_v113_1) = v1 c
          ∧ r.2.mem ((c.tc : Thread Cert.MixIdeal.nD Cert.MixIdeal.τ).loc Cert.MixIdeal.main_v113_2) = v2 c
          ∧ r.2.mem ((c.tc : Thread Cert.MixIdeal.nD Cert.MixIdeal.τ).loc Cert.MixIdeal.main_v113_5) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v67) = v0 c
          ∧ r.2.mem ((c.tc : Thread Cert.MixRefIdeal.nD Cert.MixRefIdeal.τ).loc Cert.MixRefIdeal.main_v69) = v1 c
          ∧ r.2.mem ((c.tc : Thread Cert.MixRefIdeal.nD Cert.MixRefIdeal.τ).loc Cert.MixRefIdeal.main_v70) = v2 c
          ∧ r.2.mem ((c.tc : Thread Cert.MixRefIdeal.nD Cert.MixRefIdeal.τ).loc Cert.MixRefIdeal.main_v72) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def Claim : Prop :=
  ∃ (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hMemKv : Cert.MemKv.Facts) (hMemKvIdeal : Cert.MemKvIdeal.Facts) (hMemKvRefIdeal : Cert.MemKvRefIdeal.Facts) (hPost : Cert.Post.Facts) (hPostIdeal : Cert.PostIdeal.Facts) (hPostRefIdeal : Cert.PostRefIdeal.Facts) (hMix : Cert.Mix.Facts) (hMixIdeal : Cert.MixIdeal.Facts) (hMixRefIdeal : Cert.MixRefIdeal.Facts) (hPre_mla_finite : Cert.Pre_mla_finite.Facts) (hPre_post_finite : Cert.Pre_post_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Ffn (hFfn := hFfn)
    ∧ quiescent_FfnIdeal (hFfnIdeal := hFfnIdeal)
    ∧ quiescent_FfnRefIdeal (hFfnRefIdeal := hFfnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Mix (hMix := hMix)
    ∧ quiescent_MixIdeal (hMixIdeal := hMixIdeal)
    ∧ quiescent_MixRefIdeal (hMixRefIdeal := hMixRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Ffn_FfnIdeal
    ∧ algebraic_FfnIdeal_FfnRefIdeal (hFfnIdeal := hFfnIdeal) (hFfnRefIdeal := hFfnRefIdeal)
    ∧ preserves_MemKv_MemKvIdeal
    ∧ algebraic_MemKvIdeal_MemKvRefIdeal (hMemKvIdeal := hMemKvIdeal) (hMemKvRefIdeal := hMemKvRefIdeal)
    ∧ preserves_Post_PostIdeal
    ∧ algebraic_PostIdeal_PostRefIdeal_pre_post_finite (hPostIdeal := hPostIdeal) (hPostRefIdeal := hPostRefIdeal) (hPre_post_finite := hPre_post_finite)
    ∧ preserves_Mix_MixIdeal
    ∧ algebraic_MixIdeal_MixRefIdeal (hMixIdeal := hMixIdeal) (hMixRefIdeal := hMixRefIdeal)
-- ==== Pre_mla_finite.lean ====
abbrev S4x8x128x8192 : Shape := ⟨4, ![4, 8, 128, 8192]⟩
abbrev S4x8x8192x128 : Shape := ⟨4, ![4, 8, 8192, 128]⟩
abbrev S4x8x32x64x256 : Shape := ⟨5, ![4, 8, 32, 64, 256]⟩
abbrev S_ : Shape := ⟨0, ![]⟩

class Facts : Prop where
  bitsLt_bf16_f32 : FTy.bits .bf16 < FTy.bits .f32
  bcast_S_S4x8x128x8192 : S_.BroadcastsInDim S4x8x128x8192 (![] : Fin 0 → Fin S4x8x128x8192.rank)
  bcast_S_S4x8x8192x128 : S_.BroadcastsInDim S4x8x8192x128 (![] : Fin 0 → Fin S4x8x8192x128.rank)

variable [Facts]

def fn {F : FTy → Type} [FloatOps F] (main_arg0 : FVec F S4x8x128x8192 .bf16) (main_arg1 : FVec F S4x8x8192x128 .bf16) (main_arg2 : FVec F S4x8x32x64x256 .bf16) : IVec S4x8x128x8192 1 × IVec S4x8x8192x128 1 :=
  let main_v0 : FVec F S4x8x128x8192 .f32 := (extf .f32 · bitsLt_bf16_f32) main_arg0
  let main_v1 : FVec F S4x8x128x8192 .f32 := Host.absf main_v0
  let main_cst : FVec F S_ .f32 := constant S_ .f32 0x7F800000#32
  let main_v2 : FVec F S4x8x128x8192 .f32 := broadcastInDim S4x8x128x8192 ![] bcast_S_S4x8x128x8192 main_cst
  let main_v3 : IVec S4x8x128x8192 1 := cmpf .olt main_v1 main_v2
  let main_v4 : FVec F S4x8x8192x128 .f32 := (extf .f32 · bitsLt_bf16_f32) main_arg1
  let main_v5 : FVec F S4x8x8192x128 .f32 := Host.absf main_v4
  let main_cst_0 : FVec F S_ .f32 := constant S_ .f32 0x7F800000#32
  let main_v6 : FVec F S4x8x8192x128 .f32 := broadcastInDim S4x8x8192x128 ![] bcast_S_S4x8x8192x128 main_cst_0
  let main_v7 : IVec S4x8x8192x128 1 := cmpf .olt main_v5 main_v6
  (main_v3, main_v7)
-- ==== Pre_post_finite.lean ====
abbrev S4x8192x1024 : Shape := ⟨3, ![4, 8192, 1024]⟩
abbrev S4x8192x512 : Shape := ⟨3, ![4, 8192, 512]⟩
abbrev S4x512x8192 : Shape := ⟨3, ![4, 512, 8192]⟩
abbrev S1024 : Shape := ⟨1, ![1024]⟩
abbrev S1024x1024 : Shape := ⟨2, ![1024, 1024]⟩
abbrev S1024x512 : Shape := ⟨2, ![1024, 512]⟩
abbrev S128 : Shape := ⟨1, ![128]⟩
abbrev S4x256x512 : Shape := ⟨3, ![4, 256, 512]⟩
abbrev S512x1024 : Shape := ⟨2, ![512, 1024]⟩
abbrev S_ : Shape := ⟨0, ![]⟩

class Facts : Prop where
  bcast_S_S128 : S_.BroadcastsInDim S128 (![] : Fin 0 → Fin S128.rank)
  bitsLt_bf16_f32 : FTy.bits .bf16 < FTy.bits .f32
  bcast_S_S4x256x512 : S_.BroadcastsInDim S4x256x512 (![] : Fin 0 → Fin S4x256x512.rank)

variable [Facts]

def fn {F : FTy → Type} [FloatOps F] (main_arg0 : FVec F S4x8192x1024 .f32) (main_arg1 : FVec F S4x8192x512 .f32) (main_arg2 : FVec F S4x512x8192 .f32) (main_arg3 : FVec F S1024 .f32) (main_arg4 : FVec F S1024x1024 .f32) (main_arg5 : FVec F S1024 .f32) (main_arg6 : FVec F S1024x512 .f32) (main_arg7 : FVec F S128 .f32) (main_arg8 : FVec F S4x256x512 .bf16) (main_arg9 : FVec F S4x256x512 .bf16) (main_arg10 : FVec F S512x1024 .f32) : IVec S128 1 × IVec S4x256x512 1 :=
  let main_v0 : FVec F S128 .f32 := Host.absf main_arg7
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S4x256x512 .f32 := (extf .f32 · bitsLt_bf16_f32) main_arg8
  let main_v4 : FVec F S4x256x512 .f32 := Host.absf main_v3
  let main_cst_0 : FVec F S_ .f32 := constant S_ .f32 0x7F800000#32
  let main_v5 : FVec F S4x256x512 .f32 := broadcastInDim S4x256x512 ![] bcast_S_S4x256x512 main_cst_0
  let main_v6 : IVec S4x256x512 1 := cmpf .olt main_v4 main_v5
  (main_v2, main_v6)
-- ==== Mla.lean ====
abbrev S4x8x128x8192 : Shape := ⟨4, ![4, 8, 128, 8192]⟩
abbrev S4x8x8192x128 : Shape := ⟨4, ![4, 8, 8192, 128]⟩
abbrev S4x8x32x64x256 : Shape := ⟨5, ![4, 8, 32, 64, 256]⟩
abbrev S4x512x8192 : Shape := ⟨3, ![4, 512, 8192]⟩
abbrev S1x1x128x512 : Shape := ⟨4, ![1, 1, 128, 512]⟩
abbrev S1x1x8192x128 : Shape := ⟨4, ![1, 1, 8192, 128]⟩
abbrev S1x1x32x64x256 : Shape := ⟨5, ![1, 1, 32, 64, 256]⟩
abbrev S1x64x512 : Shape := ⟨3, ![1, 64, 512]⟩
abbrev S128x512 : Shape := ⟨2, ![128, 512]⟩
abbrev S1x512 : Shape := ⟨2, ![1, 512]⟩
abbrev S64x512 : Shape := ⟨2, ![64, 512]⟩
abbrev S1x1x256x128 : Shape := ⟨4, ![1, 1, 256, 128]⟩
abbrev S256x128 : Shape := ⟨2, ![256, 128]⟩
abbrev S256x512 : Shape := ⟨2, ![256, 512]⟩
abbrev S512 : Shape := ⟨1, ![512]⟩
abbrev S1x1x1x64x256 : Shape := ⟨5, ![1, 1, 1, 64, 256]⟩
abbrev S64x256 : Shape := ⟨2, ![64, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x8x128x8192, .bf16⟩
  | .hbm, ⟨1, _⟩ => ⟨S4x8x8192x128, .bf16⟩
  | .hbm, ⟨2, _⟩ => ⟨S4x8x32x64x256, .bf16⟩
  | .hbm, ⟨3, _⟩ => ⟨S4x512x8192, .f32⟩
  | .local _ .vmem, ⟨0, _⟩ => ⟨S1x1x128x512, .bf16⟩
  | .local _ .vmem, ⟨1, _⟩ => ⟨S1x1x128x512, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x32x64x256, .bf16⟩
  | .local _ .vmem, ⟨5, _⟩ => ⟨S1x1x32x64x256, .bf16⟩
  | .local _ .vmem, ⟨6, _⟩ => ⟨S1x64x512, .f32⟩
  | .local _ .vmem, ⟨7, _⟩ => ⟨S1x64x512, .f32⟩
  | _, _ => ⟨S4x8x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v12 : BitVec 32 := Scalar.muli arg7 c256_i32
  v12
def k0_off1 (k0_t1 : Fin k0_t1_loop.trips) : Fin 4 → Nat :=
  let c0_9 : Index := 0#32
  let c0_10 : Index := 0#32
  let c0_i32 : BitVec 32 := 0#32
  let c1_i32 : BitVec 32 := 1#32
  let arg7 : BitVec 32 := Scf.iv c0_i32 c1_i32 k0_t1
  let c256_i32 : BitVec 32 := 256#32
  let v12 : BitVec 32 := Scalar.muli arg7 c256_i32
  let v13 : BitVec 32 := v12
  let v14 : Index := Scalar.indexCast v13
  let c0_11 : Index := 0#32
  ![0, 0, v14.toNat, 0]
def k0_off2 (k0_t1 : Fin k0_t1_loop.trips) : Fin 5 → Nat :=
  let c0_15 : Index := 0#32
  let c0_16 : Index := 0#32
  let c0_i32 : BitVec 32 := 0#32
  let c1_i32 : BitVec 32 := 1#32
  let arg7 : BitVec 32 := Scf.iv c0_i32 c1_i32 k0_t1
  let v32 : Index := Scalar.indexCast arg7
  let c0_17 : Index := 0#32
  let c0_18 : Index := 0#32
  ![0, 0, v32.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S4x8x128x8192 : Shape := ⟨4, ![4, 8, 128, 8192]⟩
abbrev S4x8x8192x128 : Shape := ⟨4, ![4, 8, 8192, 128]⟩
abbrev S4x8x32x64x256 : Shape := ⟨5, ![4, 8, 32, 64, 256]⟩
abbrev S4x8x32x256x64 : Shape := ⟨5, ![4, 8, 32, 256, 64]⟩
abbrev S4x8x8192x64 : Shape := ⟨4, ![4, 8, 8192, 64]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x512x8192 : Shape := ⟨3, ![4, 512, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4x8x128x8192, .bf16⟩
  | .hbm, ⟨1, _⟩ => ⟨S4x8x8192x128, .bf16⟩
  | .hbm, ⟨2, _⟩ => ⟨S4x8x32x64x256, .bf16⟩
  | .hbm, ⟨3, _⟩ => ⟨S4x8x128x8192, .f32⟩
  | .hbm, ⟨4, _⟩ => ⟨S4x8x8192x128, .f32⟩
  | .hbm, ⟨5, _⟩ => ⟨S4x8x8192x128, .f32⟩
  | .hbm, ⟨6, _⟩ => ⟨S4x8x32x64x256, .f32⟩
  | .hbm, ⟨7, _⟩ => ⟨S4x8x32x256x64, .f32⟩
  | .hbm, ⟨8, _⟩ => ⟨S4x8x8192x64, .f32⟩
  | .hbm, ⟨9, _⟩ => ⟨S4x8x8192x8192, .f32⟩
  | .hbm, ⟨10, _⟩ => ⟨S_, .f32⟩
  | .hbm, ⟨11, _⟩ => ⟨S4x8x8192, .f32⟩
  | .hbm, ⟨12, _⟩ => ⟨S_, .f32⟩
  | .hbm, ⟨13, _⟩ => ⟨S4x8x8192, .f32⟩
  | .hbm, ⟨14, _⟩ => ⟨S4x8x8192, .f32⟩
  | .hbm, ⟨15, _⟩ => ⟨S4x8x8192x1, .f32⟩
  | .hbm, ⟨16, _⟩ => ⟨S4x8x8192x8192, .f32⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192, .f32⟩
  | .hbm, ⟨21, _⟩ => ⟨S4x8x8192x1, .f32⟩
  | .hbm, ⟨22, _⟩ => ⟨S4x8x8192x8192, .f32⟩
  | .hbm, ⟨23, _⟩ => ⟨S4x8x8192x8192, .f32⟩
  | .hbm, ⟨24, _⟩ => ⟨S4x8x8192x64, .f32⟩
  | .hbm, ⟨25, _⟩ => ⟨S4x8x64x8192, .f32⟩
  | .hbm, ⟨26, _⟩ => ⟨S4x512x8192, .f32⟩
  | _, _ => ⟨S4x8x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Ffn.lean ====
abbrev S4x8192x1024 : Shape := ⟨3, ![4, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x1024 : Shape := ⟨2, ![1, 1024]⟩
abbrev S1x5632 : Shape := ⟨2, ![1, 5632]⟩
abbrev S1024x1024 : Shape := ⟨2, ![1024, 1024]⟩
abbrev S8x1024 : Shape := ⟨2, ![8, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S16x1024 : Shape := ⟨2, ![16, 1024]⟩
abbrev S1024x1 : Shape := ⟨2, ![1024, 1]⟩
abbrev S8 : Shape := ⟨1, ![8]⟩
abbrev S8x1 : Shape := ⟨2, ![8, 1]⟩
abbrev S16x256 : Shape := ⟨2, ![16, 256]⟩

abbrev nBuf : Space → Nat
  | .hbm => 12
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S32768x1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x1024, .bf16⟩
  | .local _ .vmem, ⟨20, _⟩ => ⟨S256x1024, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | .local _ .vmem, ⟨24, _⟩ => ⟨S16x1024, .bf16⟩
  | .local _ .vmem, ⟨25, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v123 : BitVec 1 := Scalar.cmpi .eq arg1 c10_i32
  let v124 : BitVec 32 := Scalar.extui v123
  let c0_i32_54 : BitVec 32 := 0#32
  let v125 : BitVec 1 := Scalar.cmpi .ne v124 c0_i32_54
  v125

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S4x8192x1024 : Shape := ⟨3, ![4, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x5632, .f32⟩
  | .hbm, ⟨23, _⟩ => ⟨S_, .i32⟩
  | .hbm, ⟨24, _⟩ => ⟨S_, .f32⟩
  | .hbm, ⟨25, _⟩ => ⟨S4x8194x5632, .f32⟩
  | .hbm, ⟨26, _⟩ => ⟨S4x8192x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S4x8192x5632, .f32⟩
  | .hbm, ⟨31, _⟩ => ⟨S4x8192x5632, .f32⟩
  | .hbm, ⟨32, _⟩ => ⟨S4x8192x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S4x8192x5632, .f32⟩
  | .hbm, ⟨37, _⟩ => ⟨S4x8192x5632, .f32⟩
  | .hbm, ⟨38, _⟩ => ⟨S4x8192x5632, .f32⟩
  | .hbm, ⟨39, _⟩ => ⟨S4x8192x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S4x8192x5632, .f32⟩
  | .hbm, ⟨44, _⟩ => ⟨S4x8192x5632, .f32⟩
  | .hbm, ⟨45, _⟩ => ⟨S4x8192x5632, .f32⟩
  | .hbm, ⟨46, _⟩ => ⟨S1x1x5632, .f32⟩
  | .hbm, ⟨47, _⟩ => ⟨S4x8192x5632, .f32⟩
  | .hbm, ⟨48, _⟩ => ⟨S4x8192x5632, .f32⟩
  | .hbm, ⟨49, _⟩ => ⟨S4x8192x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S_, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S4x8192x1024, .f32⟩
  | .hbm, ⟨62, _⟩ => ⟨S4x8192x1024, .f32⟩
  | .hbm, ⟨63, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== MemKv.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S4x256x512 : Shape := ⟨3, ![4, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x1024, .f32⟩
  | .hbm, ⟨5, _⟩ => ⟨S1024x1024, .bf16⟩
  | .hbm, ⟨6, _⟩ => ⟨S1x128, .f32⟩
  | .hbm, ⟨7, _⟩ => ⟨S4x256x512, .bf16⟩
  | .hbm, ⟨8, _⟩ => ⟨S4x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x512, .f32⟩
  | .hbm, ⟨22, _⟩ => ⟨S4x256x4x128, .f32⟩
  | .hbm, ⟨23, _⟩ => ⟨S4x256x4x128, .f32⟩
  | .hbm, ⟨24, _⟩ => ⟨S_, .f32⟩
  | .hbm, ⟨25, _⟩ => ⟨S4x256x4, .f32⟩
  | .hbm, ⟨26, _⟩ => ⟨S4x256x4x1, .f32⟩
  | .hbm, ⟨27, _⟩ => ⟨S_, .f32⟩
  | .hbm, ⟨28, _⟩ => ⟨S4x256x4x1, .f32⟩
  | .hbm, ⟨29, _⟩ => ⟨S4x256x4x1, .f32⟩
  | .hbm, ⟨30, _⟩ => ⟨S_, .f32⟩
  | .hbm, ⟨31, _⟩ => ⟨S4x256x4x1, .f32⟩
  | .hbm, ⟨32, _⟩ => ⟨S4x256x4x1, .f32⟩
  | .hbm, ⟨33, _⟩ => ⟨S4x256x4x1, .f32⟩
  | .hbm, ⟨34, _⟩ => ⟨S4x256x4x128, .f32⟩
  | .hbm, ⟨35, _⟩ => ⟨S4x256x4x128, .f32⟩
  | .hbm, ⟨36, _⟩ => ⟨S1x1x1x128, .f32⟩
  | .hbm, ⟨37, _⟩ => ⟨S4x256x4x128, .f32⟩
  | .hbm, ⟨38, _⟩ => ⟨S4x256x4x128, .f32⟩
  | .hbm, ⟨39, _⟩ => ⟨S4x256x512, .f32⟩
  | .hbm, ⟨40, _⟩ => ⟨S4x256x512, .bf16⟩
  | .hbm, ⟨41, _⟩ => ⟨S4x256x512, .f32⟩
  | .hbm, ⟨42, _⟩ => ⟨S4x256x512, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Post.lean ====
abbrev S4x8192x1024 : Shape := ⟨3, ![4, 8192, 1024]⟩
abbrev S4x8192x512 : Shape := ⟨3, ![4, 8192, 512]⟩
abbrev S4x512x8192 : Shape := ⟨3, ![4, 512, 8192]⟩
abbrev S1024 : Shape := ⟨1, ![1024]⟩
abbrev S1024x1024 : Shape := ⟨2, ![1024, 1024]⟩
abbrev S1024x512 : Shape := ⟨2, ![1024, 512]⟩
abbrev S128 : Shape := ⟨1, ![128]⟩
abbrev S4x256x512 : Shape := ⟨3, ![4, 256, 512]⟩
abbrev S512x1024 : Shape := ⟨2, ![512, 1024]⟩
abbrev S512 : Shape := ⟨1, ![512]⟩
abbrev S1x512 : Shape := ⟨2, ![1, 512]⟩
abbrev S1x1024 : Shape := ⟨2, ![1, 1024]⟩
abbrev S1x128 : Shape := ⟨2, ![1, 128]⟩
abbrev S1x512x1024 : Shape := ⟨3, ![1, 512, 1024]⟩
abbrev S1x512x512 : Shape := ⟨3, ![1, 512, 512]⟩
abbrev S1x256x512 : Shape := ⟨3, ![1, 256, 512]⟩
abbrev S512x512 : Shape := ⟨2, ![512, 512]⟩
abbrev S512x1 : Shape := ⟨2, ![512, 1]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 21
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x512x8192, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S128, .f32⟩
  | .hbm, ⟨8, _⟩ => ⟨S4x256x512, .bf16⟩
  | .hbm, ⟨9, _⟩ => ⟨S4x256x512, .bf16⟩
  | .hbm, ⟨10, _⟩ => ⟨S512x1024, .f32⟩
  | .hbm, ⟨11, _⟩ => ⟨S512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1024x512, .bf16⟩
  | .hbm, ⟨18, _⟩ => ⟨S1x128, .f32⟩
  | .hbm, ⟨19, _⟩ => ⟨S512x1024, .bf16⟩
  | .hbm, ⟨20, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x512, .bf16⟩
  | .local _ .vmem, ⟨11, _⟩ => ⟨S1x128, .f32⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S512x1024, .bf16⟩
  | .local _ .vmem, ⟨17, _⟩ => ⟨S1x512x1024, .f32⟩
  | .local _ .vmem, ⟨18, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PostRefIdeal.lean ====
abbrev S4x8192x1024 : Shape := ⟨3, ![4, 8192, 1024]⟩
abbrev S4x8192x512 : Shape := ⟨3, ![4, 8192, 512]⟩
abbrev S4x512x8192 : Shape := ⟨3, ![4, 512, 8192]⟩
abbrev S1024 : Shape := ⟨1, ![1024]⟩
abbrev S1024x1024 : Shape := ⟨2, ![1024, 1024]⟩
abbrev S1024x512 : Shape := ⟨2, ![1024, 512]⟩
abbrev S128 : Shape := ⟨1, ![128]⟩
abbrev S4x256x512 : Shape := ⟨3, ![4, 256, 512]⟩
abbrev S512x1024 : Shape := ⟨2, ![512, 1024]⟩
abbrev S512 : Shape := ⟨1, ![512]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S1x1x1024 : Shape := ⟨3, ![1, 1, 1024]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x256x4x128 : Shape := ⟨4, ![4, 256, 4, 128]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩

abbrev nBuf : Space → Nat
  | .hbm => 110
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x512x8192, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S128, .f32⟩
  | .hbm, ⟨8, _⟩ => ⟨S4x256x512, .bf16⟩
  | .hbm, ⟨9, _⟩ => ⟨S4x256x512, .bf16⟩
  | .hbm, ⟨10, _⟩ => ⟨S512x1024, .f32⟩
  | .hbm, ⟨11, _⟩ => ⟨S512, .f32⟩
  | .hbm, ⟨12, _⟩ => ⟨S4x8192x512, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x512, .f32⟩
  | .hbm, ⟨24, _⟩ => ⟨S4x8192x512, .f32⟩
  | .hbm, ⟨25, _⟩ => ⟨S1x1x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S512, .f32⟩
  | .hbm, ⟨30, _⟩ => ⟨S4x8192x512, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192x512, .f32⟩
  | .hbm, ⟨42, _⟩ => ⟨S4x8192x512, .f32⟩
  | .hbm, ⟨43, _⟩ => ⟨S1x1x512, .f32⟩
  | .hbm, ⟨44, _⟩ => ⟨S4x8192x512, .f32⟩
  | .hbm, ⟨45, _⟩ => ⟨S4x8192x512, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x8192x1, .f32⟩
  | .hbm, ⟨60, _⟩ => ⟨S4x8192x1024, .f32⟩
  | .hbm, ⟨61, _⟩ => ⟨S4x8192x1024, .f32⟩
  | .hbm, ⟨62, _⟩ => ⟨S1x1x1024, .f32⟩
  | .hbm, ⟨63, _⟩ => ⟨S4x8192x1024, .f32⟩
  | .hbm, ⟨64, _⟩ => ⟨S4x8192x1024, .f32⟩
  | .hbm, ⟨65, _⟩ => ⟨S4x8192x512, .f32⟩
  | .hbm, ⟨66, _⟩ => ⟨S4x8192x4x128, .f32⟩
  | .hbm, ⟨67, _⟩ => ⟨S4x8192x4x128, .f32⟩
  | .hbm, ⟨68, _⟩ => ⟨S_, .f32⟩
  | .hbm, ⟨69, _⟩ => ⟨S4x8192x4, .f32⟩
  | .hbm, ⟨70, _⟩ => ⟨S4x8192x4x1, .f32⟩
  | .hbm, ⟨71, _⟩ => ⟨S_, .f32⟩
  | .hbm, ⟨72, _⟩ => ⟨S4x8192x4x1, .f32⟩
  | .hbm, ⟨73, _⟩ => ⟨S4x8192x4x1, .f32⟩
  | .hbm, ⟨74, _⟩ => ⟨S_, .f32⟩
  | .hbm, ⟨75, _⟩ => ⟨S4x8192x4x1, .f32⟩
  | .hbm, ⟨76, _⟩ => ⟨S4x8192x4x1, .f32⟩
  | .hbm, ⟨77, _⟩ => ⟨S4x8192x4x1, .f32⟩
  | .hbm, ⟨78, _⟩ => ⟨S4x8192x4x128, .f32⟩
  | .hbm, ⟨79, _⟩ => ⟨S4x8192x4x128, .f32⟩
  | .hbm, ⟨80, _⟩ => ⟨S1x1x1x128, .f32⟩
  | .hbm, ⟨81, _⟩ => ⟨S4x8192x4x128, .f32⟩
  | .hbm, ⟨82, _⟩ => ⟨S4x8192x4x128, .f32⟩
  | .hbm, ⟨83, _⟩ => ⟨S4x256x512, .f32⟩
  | .hbm, ⟨84, _⟩ => ⟨S4x256x4x128, .f32⟩
  | .hbm, ⟨85, _⟩ => ⟨S4x256x512, .f32⟩
  | .hbm, ⟨86, _⟩ => ⟨S4x256x4x128, .f32⟩
  | .hbm, ⟨87, _⟩ => ⟨S4x4x8192x256, .f32⟩
  | .hbm, ⟨88, _⟩ => ⟨S_, .f32⟩
  | .hbm, ⟨89, _⟩ => ⟨S4x4x8192x256, .f32⟩
  | .hbm, ⟨90, _⟩ => ⟨S4x4x8192x256, .f32⟩
  | .hbm, ⟨91, _⟩ => ⟨S_, .f32⟩
  | .hbm, ⟨92, _⟩ => ⟨S4x4x8192, .f32⟩
  | .hbm, ⟨93, _⟩ => ⟨S_, .f32⟩
  | .hbm, ⟨94, _⟩ => ⟨S4x4x8192, .f32⟩
  | .hbm, ⟨95, _⟩ => ⟨S4x4x8192, .f32⟩
  | .hbm, ⟨96, _⟩ => ⟨S4x4x8192x1, .f32⟩
  | .hbm, ⟨97, _⟩ => ⟨S4x4x8192x256, .f32⟩
  | .hbm, ⟨98, _⟩ => ⟨S4x4x8192x256, .f32⟩
  | .hbm, ⟨99, _⟩ => ⟨S4x4x8192x256, .f32⟩
  | .hbm, ⟨100, _⟩ => ⟨S_, .f32⟩
  | .hbm, ⟨101, _⟩ => ⟨S4x4x8192, .f32⟩
  | .hbm, ⟨102, _⟩ => ⟨S4x4x8192x1, .f32⟩
  | .hbm, ⟨103, _⟩ => ⟨S4x4x8192x256, .f32⟩
  | .hbm, ⟨104, _⟩ => ⟨S4x4x8192x256, .f32⟩
  | .hbm, ⟨105, _⟩ => ⟨S4x4x128x8192, .f32⟩
  | .hbm, ⟨106, _⟩ => ⟨S4x8192x4x128, .f32⟩
  | .hbm, ⟨107, _⟩ => ⟨S4x8192x512, .f32⟩
  | .hbm, ⟨108, _⟩ => ⟨S4x8192x1024, .f32⟩
  | .hbm, ⟨109, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Mix.lean ====
abbrev S4x8192x1024 : Shape := ⟨3, ![4, 8192, 1024]⟩
abbrev S1024 : Shape := ⟨1, ![1024]⟩
abbrev S1024x2208 : Shape := ⟨2, ![1024, 2208]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S96 : Shape := ⟨1, ![96]⟩
abbrev S8192 : Shape := ⟨1, ![8192]⟩
abbrev S_ : Shape := ⟨0, ![]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S8192x32 : Shape := ⟨2, ![8192, 32]⟩
abbrev S8192x64 : Shape := ⟨2, ![8192, 64]⟩
abbrev S8192x128 : Shape := ⟨2, ![8192, 128]⟩
abbrev S16 : Shape := ⟨1, ![16]⟩
abbrev S32 : Shape := ⟨1, ![32]⟩
abbrev S1024x32 : Shape := ⟨2, ![1024, 32]⟩
abbrev S1024x640 : Shape := ⟨2, ![1024, 640]⟩
abbrev S1024x128 : Shape := ⟨2, ![1024, 128]⟩
abbrev S1024x16 : Shape := ⟨2, ![1024, 16]⟩
abbrev S1x32 : Shape := ⟨2, ![1, 32]⟩
abbrev S1024x896 : Shape := ⟨2, ![1024, 896]⟩
abbrev S384x8x96 : Shape := ⟨3, ![384, 8, 96]⟩
abbrev S384x8x64 : Shape := ⟨3, ![384, 8, 64]⟩
abbrev S384x8x32 : Shape := ⟨3, ![384, 8, 32]⟩
abbrev S384x8x16 : Shape := ⟨3, ![384, 8, 16]⟩
abbrev S1x1x32 : Shape := ⟨3, ![1, 1, 32]⟩
abbrev S256x8x128 : Shape := ⟨3, ![256, 8, 128]⟩
abbrev S128 : Shape := ⟨1, ![128]⟩
abbrev S1x128 : Shape := ⟨2, ![1, 128]⟩
abbrev S1024x1536 : Shape := ⟨2, ![1024, 1536]⟩
abbrev S384x8x128 : Shape := ⟨3, ![384, 8, 128]⟩
abbrev S384x1024 : Shape := ⟨2, ![384, 1024]⟩
abbrev S256x8x64 : Shape := ⟨3, ![256, 8, 64]⟩
abbrev S256x512 : Shape := ⟨2, ![256, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x384 : Shape := ⟨2, ![1, 384]⟩
abbrev S1x256 : Shape := ⟨2, ![1, 256]⟩
abbrev S1x1024 : Shape := ⟨2, ![1, 1024]⟩
abbrev S4x8192x512 : Shape := ⟨3, ![4, 8192, 512]⟩
abbrev S4x8x128x8192 : Shape := ⟨4, ![4, 8, 128, 8192]⟩
abbrev S4x8x8192x128 : Shape := ⟨4, ![4, 8, 8192, 128]⟩
abbrev S4x8x32x64x256 : Shape := ⟨5, ![4, 8, 32, 64, 256]⟩
abbrev S1x512x1024 : Shape := ⟨3, ![1, 512, 1024]⟩
abbrev S512x128 : Shape := ⟨2, ![512, 128]⟩
abbrev S1x512x512 : Shape := ⟨3, ![1, 512, 512]⟩
abbrev S1x8x128x512 : Shape := ⟨4, ![1, 8, 128, 512]⟩
abbrev S1x8x512x128 : Shape := ⟨4, ![1, 8, 512, 128]⟩
abbrev S1x8x2x64x256 : Shape := ⟨5, ![1, 8, 2, 64, 256]⟩
abbrev S512x1024 : Shape := ⟨2, ![512, 1024]⟩
abbrev S512x1 : Shape := ⟨2, ![512, 1]⟩
abbrev S512x1536 : Shape := ⟨2, ![512, 1536]⟩
abbrev S512x512 : Shape := ⟨2, ![512, 512]⟩
abbrev S1x512x128 : Shape := ⟨3, ![1, 512, 128]⟩
abbrev S512x896 : Shape := ⟨2, ![512, 896]⟩
abbrev S512x384 : Shape := ⟨2, ![512, 384]⟩
abbrev S512x256 : Shape := ⟨2, ![512, 256]⟩
abbrev S128x512 : Shape := ⟨2, ![128, 512]⟩
abbrev S1x1x128x512 : Shape := ⟨4, ![1, 1, 128, 512]⟩
abbrev S1x1x512x128 : Shape := ⟨4, ![1, 1, 512, 128]⟩
abbrev S64x256 : Shape := ⟨2, ![64, 256]⟩
abbrev S1x1x1x64x256 : Shape := ⟨5, ![1, 1, 1, 64, 256]⟩

abbrev nBuf : Space → Nat
  | .hbm => 198
  | .vmem => 33
  | .smem => 0
  | _ => 0

abbrev hbmTy0_0 (i : Nat) : BufTy := match i % 128 with
  | 0 => ⟨S4x8192x1024, .f32⟩
  | 1 => ⟨S1024, .f32⟩
  | 2 => ⟨S1024x2208, .f32⟩
  | 3 => ⟨S64, .f32⟩
  | 4 => ⟨S64, .f32⟩
  | 5 => ⟨S384, .f32⟩
  | 6 => ⟨S256, .f32⟩
  | 7 => ⟨S384x768, .f32⟩
  | 8 => ⟨S256x1024, .f32⟩
  | 9 => ⟨S96, .f32⟩
  | 10 => ⟨S96, .f32⟩
  | 11 => ⟨S8192, .i32⟩
  | 12 => ⟨S_, .i32⟩
  | 13 => ⟨S_, .i32⟩
  | 14 => ⟨S8192, .i32⟩
  | 15 => ⟨S8192, .i32⟩
  | 16 => ⟨S8192, .i32⟩
  | 17 => ⟨S_, .i32⟩
  | 18 => ⟨S8192, .i32⟩
  | 19 => ⟨S8192, .i1⟩
  | 20 => ⟨S8192, .i32⟩
  | 21 => ⟨S8192, .i32⟩
  | 22 => ⟨S_, .i32⟩
  | 23 => ⟨S8192, .i32⟩
  | 24 => ⟨S8192, .i1⟩
  | 25 => ⟨S8192, .i1⟩
  | 26 => ⟨S_, .i32⟩
  | 27 => ⟨S8192, .i32⟩
  | 28 => ⟨S8192, .i32⟩
  | 29 => ⟨S8192, .i32⟩
  | 30 => ⟨S8192, .f32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i1⟩
  | 45 => ⟨S_, .i32⟩
  | 46 => ⟨S_, .i1⟩
  | 47 => ⟨S8192, .i1⟩
  | 48 => ⟨S8192, .i1⟩
  | 49 => ⟨S8192, .i1⟩
  | 50 => ⟨S8192, .i32⟩
  | 51 => ⟨S8192, .i32⟩
  | 52 => ⟨S8192, .i32⟩
  | 53 => ⟨S8192, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S8192x1, .f32⟩
  | 65 => ⟨S1x8, .f32⟩
  | 66 => ⟨S8192x8, .f32⟩
  | 67 => ⟨S8192x8, .f32⟩
  | 68 => ⟨S8192x8, .f32⟩
  | 69 => ⟨S8192x1, .f32⟩
  | 70 => ⟨S1x8, .f32⟩
  | 71 => ⟨S8192x8, .f32⟩
  | 72 => ⟨S8192x8, .f32⟩
  | 73 => ⟨S8192x8, .f32⟩
  | 74 => ⟨S8192x16, .f32⟩
  | 75 => ⟨S8192x16, .f32⟩
  | 76 => ⟨S8192x32, .f32⟩
  | 77 => ⟨S8192x16, .f32⟩
  | 78 => ⟨S8192x32, .f32⟩
  | 79 => ⟨S_, .f32⟩
  | 80 => ⟨S8192x64, .f32⟩
  | 81 => ⟨S_, .f32⟩
  | 82 => ⟨S8192x32, .f32⟩
  | 83 => ⟨S8192x128, .f32⟩
  | 84 => ⟨S_, .f32⟩
  | 85 => ⟨S8192x64, .f32⟩
  | 86 => ⟨S_, .f32⟩
  | 87 => ⟨S8192x32, .f32⟩
  | 88 => ⟨S8192x128, .f32⟩
  | 89 => ⟨S_, .f32⟩
  | 90 => ⟨S16, .f32⟩
  | 91 => ⟨S16, .f32⟩
  | 92 => ⟨S_, .f32⟩
  | 93 => ⟨S16, .f32⟩
  | 94 => ⟨S32, .f32⟩
  | 95 => ⟨S1024x32, .f32⟩
  | 96 => ⟨S1024x640, .f32⟩
  | 97 => ⟨S_, .i32⟩
  | 98 => ⟨S_, .f32⟩
  | 99 => ⟨S1024x128, .f32⟩
  | 100 => ⟨S1024x16, .f32⟩
  | 101 => ⟨S1024x16, .f32⟩
  | 102 => ⟨S1024x32, .f32⟩
  | 103 => ⟨S1x32, .f32⟩
  | 104 => ⟨S1024x32, .f32⟩
  | 105 => ⟨S1024x32, .f32⟩
  | 106 => ⟨S_, .i32⟩
  | 107 => ⟨S_, .f32⟩
  | 108 => ⟨S1024x128, .f32⟩
  | 109 => ⟨S1024x896, .f32⟩
  | 110 => ⟨S384x8x96, .f32⟩
  | 111 => ⟨S384x8x64, .f32⟩
  | 112 => ⟨S_, .f32⟩
  | 113 => ⟨S384x8x64, .f32⟩
  | 114 => ⟨S384x8x32, .f32⟩
  | 115 => ⟨S384x8x16, .f32⟩
  | 116 => ⟨S384x8x16, .f32⟩
  | 117 => ⟨S384x8x32, .f32⟩
  | 118 => ⟨S1x1x32, .f32⟩
  | 119 => ⟨S384x8x32, .f32⟩
  | 120 => ⟨S384x8x32, .f32⟩
  | 121 => ⟨S384x8x96, .f32⟩
  | 122 => ⟨S256x8x128, .f32⟩
  | 123 => ⟨S_, .f32⟩
  | 124 => ⟨S64, .f32⟩
  | 125 => ⟨S32, .f32⟩
  | 126 => ⟨S16, .f32⟩
  | 127 => ⟨S16, .f32⟩
  | _ => ⟨S4x8192x1024, .f32⟩

abbrev hbmTy0_1 (i : Nat) : BufTy := match i % 128 with
  | 0 => ⟨S32, .f32⟩
  | 1 => ⟨S96, .f32⟩
  | 2 => ⟨S_, .i32⟩
  | 3 => ⟨S_, .f32⟩
  | 4 => ⟨S128, .f32⟩
  | 5 => ⟨S1x128, .f32⟩
  | 6 => ⟨S_, .i32⟩
  | 7 => ⟨S_, .f32⟩
  | 8 => ⟨S128, .f32⟩
  | 9 => ⟨S1x128, .f32⟩
  | 10 => ⟨S_, .f32⟩
  | 11 => ⟨S64, .f32⟩
  | 12 => ⟨S32, .f32⟩
  | 13 => ⟨S16, .f32⟩
  | 14 => ⟨S16, .f32⟩
  | 15 => ⟨S32, .f32⟩
  | 16 => ⟨S96, .f32⟩
  | 17 => ⟨S_, .i32⟩
  | 18 => ⟨S_, .f32⟩
  | 19 => ⟨S128, .f32⟩
  | 20 => ⟨S1x128, .f32⟩
  | 21 => ⟨S_, .i32⟩
  | 22 => ⟨S_, .f32⟩
  | 23 => ⟨S128, .f32⟩
  | 24 => ⟨S1x128, .f32⟩
  | 25 => ⟨S1024x1536, .f32⟩
  | 26 => ⟨S1024x1536, .bf16⟩
  | 27 => ⟨S1024x896, .bf16⟩
  | 28 => ⟨S384x768, .f32⟩
  | 29 => ⟨S384x8x96, .f32⟩
  | 30 => ⟨S_, .i32⟩
  | 31 => ⟨S_, .f32⟩
  | 32 => ⟨S384x8x128, .f32⟩
  | 33 => ⟨S384x1024, .f32⟩
  | 34 => ⟨S384x1024, .bf16⟩
  | 35 => ⟨S384x768, .f32⟩
  | 36 => ⟨S384x8x96, .f32⟩
  | 37 => ⟨S_, .i32⟩
  | 38 => ⟨S_, .f32⟩
  | 39 => ⟨S384x8x128, .f32⟩
  | 40 => ⟨S384x1024, .f32⟩
  | 41 => ⟨S384x1024, .bf16⟩
  | 42 => ⟨S256x8x64, .f32⟩
  | 43 => ⟨S256x512, .f32⟩
  | 44 => ⟨S256x8x64, .f32⟩
  | 45 => ⟨S_, .i32⟩
  | 46 => ⟨S_, .f32⟩
  | 47 => ⟨S256x8x128, .f32⟩
  | 48 => ⟨S256x1024, .f32⟩
  | 49 => ⟨S256x1024, .bf16⟩
  | 50 => ⟨S256x8x64, .f32⟩
  | 51 => ⟨S256x512, .f32⟩
  | 52 => ⟨S256x512, .bf16⟩
  | 53 => ⟨S1x64, .f32⟩
  | 54 => ⟨S8x64, .f32⟩
  | 55 => ⟨S512, .f32⟩
  | 56 => ⟨S1x512, .f32⟩
  | 57 => ⟨S1x64, .f32⟩
  | 58 => ⟨S8x64, .f32⟩
  | 59 => ⟨S512, .f32⟩
  | 60 => ⟨S1x512, .f32⟩
  | 61 => ⟨S1x384, .f32⟩
  | 62 => ⟨S1x256, .f32⟩
  | 63 => ⟨S1x1024, .f32⟩
  | 64 => ⟨S4x8192x512, .bf16⟩
  | 65 => ⟨S4x8192x512, .bf16⟩
  | 66 => ⟨S4x8192x512, .bf16⟩
  | 67 => ⟨S4x8x128x8192, .bf16⟩
  | 68 => ⟨S4x8x8192x128, .bf16⟩
  | 69 => ⟨S4x8x32x64x256, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x896, .bf16⟩
  | .local _ .vmem, ⟨5, _⟩ => ⟨S384x1024, .bf16⟩
  | .local _ .vmem, ⟨6, _⟩ => ⟨S384x1024, .bf16⟩
  | .local _ .vmem, ⟨7, _⟩ => ⟨S256x1024, .bf16⟩
  | .local _ .vmem, ⟨8, _⟩ => ⟨S256x512, .bf16⟩
  | .local _ .vmem, ⟨9, _⟩ => ⟨S1x512, .f32⟩
  | .local _ .vmem, ⟨10, _⟩ => ⟨S1x512, .f32⟩
  | .local _ .vmem, ⟨11, _⟩ => ⟨S1x384, .f32⟩
  | .local _ .vmem, ⟨12, _⟩ => ⟨S1x256, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x8x128x512, .bf16⟩
  | .local _ .vmem, ⟨28, _⟩ => ⟨S1x8x128x512, .bf16⟩
  | .local _ .vmem, ⟨29, _⟩ => ⟨S1x8x512x128, .bf16⟩
  | .local _ .vmem, ⟨30, _⟩ => ⟨S1x8x512x128, .bf16⟩
  | .local _ .vmem, ⟨31, _⟩ => ⟨S1x8x2x64x256, .bf16⟩
  | .local _ .vmem, ⟨32, _⟩ => ⟨S1x8x2x64x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_cst : Ref sig .tc := ⟨.hbm, 55, rfl⟩
abbrev main_v6 : Ref sig .tc := ⟨.hbm, 56, rfl⟩
abbrev main_v7 : Ref sig .tc := ⟨.hbm, 57, rfl⟩
abbrev main_cst_1 : Ref sig .tc := ⟨.hbm, 58, rfl⟩
abbrev main_v8 : Ref sig .tc := ⟨.hbm, 59, rfl⟩
abbrev main_v9 : Ref sig .tc := ⟨.hbm, 60, rfl⟩
abbrev main_cst_2 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_3 : Ref sig .tc := ⟨.hbm, 79, rfl⟩
abbrev main_v27 : Ref sig .tc := ⟨.hbm, 80, rfl⟩
abbrev main_cst_4 : Ref sig .tc := ⟨.hbm, 81, rfl⟩
abbrev main_v28 : Ref sig .tc := ⟨.hbm, 82, rfl⟩
abbrev main_v29 : Ref sig .tc := ⟨.hbm, 83, rfl⟩
abbrev main_cst_5 : Ref sig .tc := ⟨.hbm, 84, rfl⟩
abbrev main_v30 : Ref sig .tc := ⟨.hbm, 85, rfl⟩
abbrev main_cst_6 : Ref sig .tc := ⟨.hbm, 86, rfl⟩
abbrev main_v31 : Ref sig .tc := ⟨.hbm, 87, rfl⟩
abbrev main_v32 : Ref sig .tc := ⟨.hbm, 88, rfl⟩
abbrev main_cst_7 : Ref sig .tc := ⟨.hbm, 89, rfl⟩
abbrev main_v33 : Ref sig .tc := ⟨.hbm, 90, rfl⟩
abbrev main_v34 : Ref sig .tc := ⟨.hbm, 91, rfl⟩
abbrev main_cst_8 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_c_9 : Ref sig .tc := ⟨.hbm, 97, rfl⟩
abbrev main_call2_v0 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_c_10 : Ref sig .tc := ⟨.hbm, 106, rfl⟩
abbrev main_call3_v0 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_11 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_cst_12 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_c_13 : Ref sig .tc := ⟨.hbm, 130, rfl⟩
abbrev main_call4_v0 : Ref sig .tc := ⟨.hbm, 131, rfl⟩
abbrev main_v66 : Ref sig .tc := ⟨.hbm, 132, rfl⟩
abbrev main_v67 : Ref sig .tc := ⟨.hbm, 133, rfl⟩
abbrev main_c_14 : Ref sig .tc := ⟨.hbm, 134, rfl⟩
abbrev main_call5_v0 : Ref sig .tc := ⟨.hbm, 135, rfl⟩
abbrev main_v68 : Ref sig .tc := ⟨.hbm, 136, rfl⟩
abbrev main_v69 : Ref sig .tc := ⟨.hbm, 137, rfl⟩
abbrev main_cst_15 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_c_16 : Ref sig .tc := ⟨.hbm, 145, rfl⟩
abbrev main_call6_v0 : Ref sig .tc := ⟨.hbm, 146, rfl⟩
abbrev main_v76 : Ref sig .tc := ⟨.hbm, 147, rfl⟩
abbrev main_v77 : Ref sig .tc := ⟨.hbm, 148, rfl⟩
abbrev main_c_17 : Ref sig .tc := ⟨.hbm, 149, rfl⟩
abbrev main_call7_v0 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_c_18 : Ref sig .tc := ⟨.hbm, 158, rfl⟩
abbrev main_call8_v0 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_c_19 : Ref sig .tc := ⟨.hbm, 165, rfl⟩
abbrev main_call9_v0 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_c_20 : Ref sig .tc := ⟨.hbm, 173, rfl⟩
abbrev main_call10_v0 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113_0 : Ref sig .tc := ⟨.hbm, 192, rfl⟩
abbrev main_v113_1 : Ref sig .tc := ⟨.hbm, 193, rfl⟩
abbrev main_v113_2 : Ref sig .tc := ⟨.hbm, 194, rfl⟩
abbrev main_v113_3 : Ref sig .tc := ⟨.hbm, 195, rfl⟩
abbrev main_v113_4 : Ref sig .tc := ⟨.hbm, 196, rfl⟩
abbrev main_v113_5 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x128x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x2x64x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== MixRefIdeal.lean ====
abbrev S4x8192x1024 : Shape := ⟨3, ![4, 8192, 1024]⟩
abbrev S1024 : Shape := ⟨1, ![1024]⟩
abbrev S1024x2208 : Shape := ⟨2, ![1024, 2208]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S96 : Shape := ⟨1, ![96]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2208 : Shape := ⟨3, ![4, 8192, 2208]⟩
abbrev S4x8192x512 : Shape := ⟨3, ![4, 8192, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x256 : Shape := ⟨3, ![4, 8192, 256]⟩
abbrev S1x1x256 : Shape := ⟨3, ![1, 1, 256]⟩
abbrev S4x8192x8x128 : Shape := ⟨4, ![4, 8192, 8, 128]⟩
abbrev S4x8x64x8192 : Shape := ⟨4, ![4, 8, 64, 8192]⟩
abbrev S4x8x64x32x256 : Shape := ⟨5, ![4, 8, 64, 32, 256]⟩
abbrev S4x8x32x64x256 : Shape := ⟨5, ![4, 8, 32, 64, 256]⟩

abbrev nBuf : Space → Nat
  | .hbm => 97
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2208, .f32⟩
  | .hbm, ⟨3, _⟩ => ⟨S64, .f32⟩
  | .hbm, ⟨4, _⟩ => ⟨S64, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S96, .f32⟩
  | .hbm, ⟨10, _⟩ => ⟨S96, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S4x8192x2208, .f32⟩
  | .hbm, ⟨28, _⟩ => ⟨S4x8192x512, .f32⟩
  | .hbm, ⟨29, _⟩ => ⟨S4x8192x8x64, .f32⟩
  | .hbm, ⟨30, _⟩ => ⟨S4x8192x8x64, .f32⟩
  | .hbm, ⟨31, _⟩ => ⟨S_, .f32⟩
  | .hbm, ⟨32, _⟩ => ⟨S4x8192x8, .f32⟩
  | .hbm, ⟨33, _⟩ => ⟨S4x8192x8x1, .f32⟩
  | .hbm, ⟨34, _⟩ => ⟨S_, .f32⟩
  | .hbm, ⟨35, _⟩ => ⟨S4x8192x8x1, .f32⟩
  | .hbm, ⟨36, _⟩ => ⟨S4x8192x8x1, .f32⟩
  | .hbm, ⟨37, _⟩ => ⟨S_, .f32⟩
  | .hbm, ⟨38, _⟩ => ⟨S4x8192x8x1, .f32⟩
  | .hbm, ⟨39, _⟩ => ⟨S4x8192x8x1, .f32⟩
  | .hbm, ⟨40, _⟩ => ⟨S4x8192x8x1, .f32⟩
  | .hbm, ⟨41, _⟩ => ⟨S4x8192x8x64, .f32⟩
  | .hbm, ⟨42, _⟩ => ⟨S4x8192x8x64, .f32⟩
  | .hbm, ⟨43, _⟩ => ⟨S1x1x1x64, .f32⟩
  | .hbm, ⟨44, _⟩ => ⟨S4x8192x8x64, .f32⟩
  | .hbm, ⟨45, _⟩ => ⟨S4x8192x8x64, .f32⟩
  | .hbm, ⟨46, _⟩ => ⟨S_, .f32⟩
  | .hbm, ⟨47, _⟩ => ⟨S4x8192x8x64, .f32⟩
  | .hbm, ⟨48, _⟩ => ⟨S4x8192x8x64, .f32⟩
  | .hbm, ⟨49, _⟩ => ⟨S4x8192x512, .f32⟩
  | .hbm, ⟨50, _⟩ => ⟨S4x8192x8x64, .f32⟩
  | .hbm, ⟨51, _⟩ => ⟨S4x8192x8x64, .f32⟩
  | .hbm, ⟨52, _⟩ => ⟨S_, .f32⟩
  | .hbm, ⟨53, _⟩ => ⟨S4x8192x8, .f32⟩
  | .hbm, ⟨54, _⟩ => ⟨S4x8192x8x1, .f32⟩
  | .hbm, ⟨55, _⟩ => ⟨S_, .f32⟩
  | .hbm, ⟨56, _⟩ => ⟨S4x8192x8x1, .f32⟩
  | .hbm, ⟨57, _⟩ => ⟨S4x8192x8x1, .f32⟩
  | .hbm, ⟨58, _⟩ => ⟨S_, .f32⟩
  | .hbm, ⟨59, _⟩ => ⟨S4x8192x8x1, .f32⟩
  | .hbm, ⟨60, _⟩ => ⟨S4x8192x8x1, .f32⟩
  | .hbm, ⟨61, _⟩ => ⟨S4x8192x8x1, .f32⟩
  | .hbm, ⟨62, _⟩ => ⟨S4x8192x8x64, .f32⟩
  | .hbm, ⟨63, _⟩ => ⟨S4x8192x8x64, .f32⟩
  | .hbm, ⟨64, _⟩ => ⟨S1x1x1x64, .f32⟩
  | .hbm, ⟨65, _⟩ => ⟨S4x8192x8x64, .f32⟩
  | .hbm, ⟨66, _⟩ => ⟨S4x8192x8x64, .f32⟩
  | .hbm, ⟨67, _⟩ => ⟨S4x8192x512, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S_, .f32⟩
  | .hbm, ⟨77, _⟩ => ⟨S4x8192x1, .f32⟩
  | .hbm, ⟨78, _⟩ => ⟨S4x8192x1, .f32⟩
  | .hbm, ⟨79, _⟩ => ⟨S4x8192x1, .f32⟩
  | .hbm, ⟨80, _⟩ => ⟨S4x8192x256, .f32⟩
  | .hbm, ⟨81, _⟩ => ⟨S4x8192x256, .f32⟩
  | .hbm, ⟨82, _⟩ => ⟨S1x1x256, .f32⟩
  | .hbm, ⟨83, _⟩ => ⟨S4x8192x256, .f32⟩
  | .hbm, ⟨84, _⟩ => ⟨S4x8192x256, .f32⟩
  | .hbm, ⟨85, _⟩ => ⟨S4x8192x1024, .f32⟩
  | .hbm, ⟨86, _⟩ => ⟨S4x8192x8x128, .f32⟩
  | .hbm, ⟨87, _⟩ => ⟨S4x8192x8x64, .f32⟩
  | .hbm, ⟨88, _⟩ => ⟨S4x8x64x8192, .f32⟩
  | .hbm, ⟨89, _⟩ => ⟨S4x8x64x32x256, .f32⟩
  | .hbm, ⟨90, _⟩ => ⟨S4x8192x512, .f32⟩
  | .hbm, ⟨91, _⟩ => ⟨S4x8192x512, .bf16⟩
  | .hbm, ⟨92, _⟩ => ⟨S4x8192x512, .f32⟩
  | .hbm, ⟨93, _⟩ => ⟨S4x8192x512, .bf16⟩
  | .hbm, ⟨94, _⟩ => ⟨S4x8192x512, .bf16⟩
  | .hbm, ⟨95, _⟩ => ⟨S4x8x32x64x256, .f32⟩
  | .hbm, ⟨96, _⟩ => ⟨S4x8x32x64x256, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== Proof.OnlineSoftmax.lean ====
/-
  The arithmetic of softmax attention over the extended reals: a weighted average is the same whatever real number is
  subtracted in the exponents, and the chunk-by-chunk recurrence (running maximum, running sum, running weighted sum)
  computes it.
-/
module

public import Idealize.ShloMosaic.Lib.Pointwise

@[expose] public section

noncomputable section

namespace Cert.OnlineSoftmax

open Idealize.ShloMosaic

/-- A nonnegative real factor distributes over a finite sum of extended reals. -/
theorem coe_mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- The sum of finitely many reals, read in the extended reals. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The larger of two reals, read in the extended reals. -/
theorem coe_max (a b : ℝ) : max (a : EReal) (b : EReal) = ((max a b : ℝ) : EReal) :=
  (EReal.coe_strictMono.monotone.map_max).symm

/-- A maximum taken from a real start over reals is a real. -/
theorem fold_max_real {ι : Type*} (S : Finset ι) (f : ι → ℝ) (a : ℝ) :
    ∃ r : ℝ, S.fold max (a : EReal) (fun i => (f i : EReal)) = (r : EReal) := by
  classical
  induction S using Finset.induction_on with
  | empty => exact ⟨a, by simp⟩
  | insert b S hb ih =>
    obtain ⟨r, hr⟩ := ih
    exact ⟨max (f b) r, by rw [Finset.fold_insert hb, hr, coe_max]⟩

/-- A maximum taken from `-∞` over finitely many reals, at least one of them, is a real. -/
theorem fold_max_bot {ι : Type*} [Fintype ι] [Nonempty ι] (f : ι → ℝ) :
    ∃ r : ℝ, Finset.univ.fold max (⊥ : EReal) (fun i => (f i : EReal)) = (r : EReal) := by
  classical
  obtain ⟨i0⟩ := ‹Nonempty ι›
  have h : ∀ S : Finset ι, ∃ r : ℝ, (insert i0 S).fold max (⊥ : EReal) (fun i => (f i : EReal)) = (r : EReal) := by
    intro S
    induction S using Finset.induction_on with
    | empty => exact ⟨f i0, by simp⟩
    | insert b S hb ih =>
      obtain ⟨r, hr⟩ := ih
      by_cases hbi : b ∈ insert i0 S
      · exact ⟨r, by rw [Finset.insert_comm, Finset.insert_eq_self.mpr hbi, hr]⟩
      · exact ⟨max (f b) r, by rw [Finset.insert_comm, Finset.fold_insert hbi, hr, coe_max]⟩
  obtain ⟨r, hr⟩ := h Finset.univ
  exact ⟨r, by rw [← hr]; congr 1; exact (Finset.insert_eq_self.mpr (Finset.mem_univ i0)).symm⟩

/-- Weighted sums in exponents shifted by `a`, rescaled by `exp (a - b)`, are the sums shifted by `b`. -/
theorem rescale {ι : Type*} (S : Finset ι) (s : ι → ℝ) (v : ι → EReal) (a b : ℝ) :
    (Real.exp (a - b) : EReal) * ∑ i ∈ S, v i * (Real.exp (s i - a) : EReal)
      = ∑ i ∈ S, v i * (Real.exp (s i - b) : EReal) := by
  rw [coe_mul_sum _ (Real.exp_pos _).le]
  refine Finset.sum_congr rfl fun i _ => ?_
  rw [mul_left_comm, ← EReal.coe_mul, ← Real.exp_add]
  congr 3; ring

/-- The same for the sums of the exponentials alone. -/
theorem rescale_one {ι : Type*} (S : Finset ι) (s : ι → ℝ) (a b : ℝ) :
    (Real.exp (a - b) : EReal) * ∑ i ∈ S, (Real.exp (s i - a) : EReal)
      = ∑ i ∈ S, (Real.exp (s i - b) : EReal) := by
  have := rescale S s (fun _ => 1) a b
  simpa using this

/-- THE RECURRENCE. Chunks `k < K` of `T` real scores `s k i` and values `v k i`. If before chunk `k` the running maximum
    is `M k`, the running sum `L k` and the running weighted sum `A k`, each chunk updating them as online softmax
    does from a real start and two zeros, then after `K` chunks the maximum is some real `μ`, and the two sums are
    those of `exp (s - μ)` over all the chunks. -/
theorem recurrence {T : ℕ} [NeZero T] (K : ℕ) (s : ℕ → Fin T → ℝ) (v : ℕ → Fin T → EReal) (M L A : ℕ → EReal)
    (m0 : ℝ) (hM0 : M 0 = (m0 : EReal)) (hL0 : L 0 = 0) (hA0 : A 0 = 0)
    (hM : ∀ k < K, M (k + 1) = max (M k) (Finset.univ.fold max ⊥ fun i => (s k i : EReal)))
    (hL : ∀ k < K, L (k + 1) = Ideal.exp (M k - M (k + 1)) * L k + ∑ i, Ideal.exp ((s k i : EReal) - M (k + 1)))
    (hA : ∀ k < K, A (k + 1) = Ideal.exp (M k - M (k + 1)) * A k + ∑ i, v k i * Ideal.exp ((s k i : EReal) - M (k + 1))) :
    ∀ k ≤ K, ∃ μ : ℝ, M k = (μ : EReal)
      ∧ L k = ∑ p ∈ Finset.range k, ∑ i, (Real.exp (s p i - μ) : EReal)
      ∧ A k = ∑ p ∈ Finset.range k, ∑ i, v p i * (Real.exp (s p i - μ) : EReal) := by
  intro k
  induction k with
  | zero => intro _; exact ⟨m0, hM0, by simp [hL0], by simp [hA0]⟩
  | succ k ih =>
    intro hk
    obtain ⟨μ, h1, h2, h3⟩ := ih (by omega)
    obtain ⟨r, hr⟩ := fold_max_bot (s k)
    have hM' : M (k + 1) = ((max μ r : ℝ) : EReal) := by rw [hM k (by omega), hr, h1, coe_max]
    have hsub : ∀ a b : ℝ, Ideal.exp ((a : EReal) - (b : EReal)) = (Real.exp (a - b) : EReal) := fun a b => by
      rw [← EReal.coe_sub, Ideal.exp_coe]
    refine ⟨max μ r, hM', ?_, ?_⟩
    · rw [hL k (by omega), hM', h1, h2, Finset.sum_range_succ]
      simp only [hsub]
      congr 1
      rw [coe_mul_sum _ (Real.exp_pos _).le]
      exact Finset.sum_congr rfl fun p _ => rescale_one _ _ _ _
    · rw [hA k (by omega), hM', h1, h3, Finset.sum_range_succ]
      simp only [hsub]
      congr 1
      rw [coe_mul_sum _ (Real.exp_pos _).le]
      exact Finset.sum_congr rfl fun p _ => rescale _ _ _ _ _

/-- THE WEIGHTED AVERAGE DOES NOT DEPEND ON THE SHIFT: dividing the weighted sum shifted by `μ` by the sum of the
    exponentials is the sum of the values weighted by the normalised exponentials shifted by `ν`. -/
theorem average {ι : Type*} [Fintype ι] [Nonempty ι] (s : ι → ℝ) (v : ι → EReal) (μ ν : ℝ) :
    Ideal.div (∑ i, v i * (Real.exp (s i - μ) : EReal)) (∑ i, (Real.exp (s i - μ) : EReal))
      = ∑ i, Ideal.div (Ideal.exp ((s i : EReal) - (ν : EReal))) (∑ j, Ideal.exp ((s j : EReal) - (ν : EReal))) * v i := by
  have hsub : ∀ a b : ℝ, Ideal.exp ((a : EReal) - (b : EReal)) = (Real.exp (a - b) : EReal) := fun a b => by
    rw [← EReal.coe_sub, Ideal.exp_coe]
  have hpos : ∀ c : ℝ, 0 < ∑ i, Real.exp (s i - c) := fun c =>
    Finset.sum_pos (fun i _ => Real.exp_pos _) Finset.univ_nonempty
  simp only [hsub]
  rw [← coe_sum, ← coe_sum, Ideal.div_coe (hpos μ).ne', mul_comm, coe_mul_sum _ (by have := hpos μ; positivity)]
  refine Finset.sum_congr rfl fun i _ => ?_
  rw [Ideal.div_coe (hpos ν).ne', ← EReal.coe_mul, mul_left_comm, ← EReal.coe_mul, mul_comm]
  congr 2
  have e : ∑ j, Real.exp (s j - μ) = Real.exp (ν - μ) * ∑ j, Real.exp (s j - ν) := by
    rw [Finset.mul_sum]
    exact Finset.sum_congr rfl fun j _ => by rw [← Real.exp_add]; congr 1; ring
  have e' : Real.exp (s i - μ) = Real.exp (ν - μ) * Real.exp (s i - ν) := by
    rw [← Real.exp_add]; congr 1; ring
  have h1 := (hpos ν).ne'
  have h2 := (Real.exp_pos (ν - μ)).ne'
  rw [e, e']
  field_simp

end Cert.OnlineSoftmax

end
-- ==== Proof.MlaValue.lean ====
/-
  The latent attention kernel's block, read at one entry: the loop over the chunks of keys computes the softmax-weighted
  average of the values.
-/
module

public import proofs.«01_k».proof.Proof.OnlineSoftmax
public import proofs.«01_k».proof.Proof.Gen.MlaIdeal.Value
public import Idealize.ShloMosaic.Lib.Pointwise
public import Idealize.ShloMosaic.Lib.Pipeline.ValueKit

@[expose] public section

set_option maxRecDepth 16384

noncomputable section

namespace Cert.MlaIdeal.Attn

open Cert.MlaIdeal Cert.MlaIdeal.Gen Idealize.ShloMosaic Idealize.ShloMosaic.TcCoe Idealize.SL.Sem
open Idealize.ShloMosaic.Pipeline (Dat)

/-- `-∞` of the format, read as the least extended real. -/
theorem ofBits_neg_inf : Ideal.ofBits .f32 0xFF800000#32 = (⊥ : EReal) := by
  simp [Ideal.ofBits, Ideal.ieee]

/-- The start of the running maximum is a real number (about `-10^30`). -/
theorem ofBits_neg : ∃ r : ℝ, Ideal.ofBits .f32 0xF149F2CA#32 = (r : EReal) := by
  refine ⟨-(13234890 * 2 ^ 76), ?_⟩
  simp [Ideal.ofBits, Ideal.ieee]

/-- Trip `k` reads the keys from row `256 k`. -/
theorem off_row : ∀ k : Fin k0_t1_loop.trips, BitVec.toNat (Scalar.indexCast (Scalar.muli (Scf.iv 0#32 1#32 k.val) 256#32)) = k.val * 256 := by
  decide +kernel

/-- Trip `k` reads the `k`-th chunk of the values. -/
theorem off_chunk : ∀ k : Fin k0_t1_loop.trips, BitVec.toNat (Scalar.indexCast (Scf.iv 0#32 1#32 k.val)) = k.val := by
  decide +kernel

/-- One trip of the loop: from the carried maximum, sum and weighted sum it makes the next ones out of 256 keys and the
    matching chunk of the values. -/
theorem trip_eq (𝒱 : Variants) (c : Dev nD) (bd : Option 𝒱.V) (i : grid0.Coords) (arg3 : Memref sig .tc .vmem S1x1x128x512 .bf16) (harg3 : arg3.IsWhole) (arg4 : Memref sig .tc .vmem S1x1x8192x128 .bf16) (harg4 : arg4.IsWhole) (arg5 : Memref sig .tc .vmem S1x1x32x64x256 .bf16) (harg5 : arg5.IsWhole) (arg6 : Memref sig .tc .vmem S1x64x512 .f32) (harg6 : arg6.IsWhole)
    (v0 : Vec Ideal S1x1x128x512 .bf16) (X4 : Vec Ideal S1x1x8192x128 .bf16) (X5 : Vec Ideal S1x1x32x64x256 .bf16)
    (k : Fin k0_t1_loop.trips) (acc : FVec Ideal S1x512 .f32 × FVec Ideal S1x512 .f32 × FVec Ideal S64x512 .f32) :
    ∃ (K : Vec Ideal S1x1x256x128 .bf16) (V : Vec Ideal S1x1x1x64x256 .bf16),
      (∀ (i : Fin 256) (d : Fin 128), K (ix4 0 0 i d) = X4 (ix4 0 0 ⟨k.val * 256 + i.val, by have h : k.val < 32 := Nat.lt_of_lt_of_le k.isLt k0_t1_abs.2.1; omega⟩ d))
      ∧ (∀ (h : Fin 64) (i : Fin 256), V (ix5 0 0 0 h i) = X5 (ix5 0 0 ⟨k.val, Nat.lt_of_lt_of_le k.isLt k0_t1_abs.2.1⟩ h i))
      ∧ tripR_k0_t1 𝒱 c bd i arg3 harg3 arg4 harg4 arg5 harg5 arg6 harg6 v0 (harg4.unread (Val := Elt Ideal) X4) (harg5.unread (Val := Elt Ideal) X5) k acc
        = (k0_pay5 v0 acc.1 K, k0_pay8 v0 acc.1 acc.2.1 K, k0_pay9 v0 acc.1 acc.2.2 K V) := by
  unfold tripR_k0_t1 trip_k0_t1
  sl_unfold_words
  dsimp only
  frame_out
  refine ⟨_, _, ?_, ?_, rfl⟩
  · intro i d
    pointwise
    simp only [off_row]
  · intro h i
    pointwise
    simp only [off_chunk]
    rfl

/-- The next running maximum: the larger of the carried one and the chunk's largest score. -/
theorem pay5_at (v0 : FVec Ideal S1x1x128x512 .bf16) (a : FVec Ideal S1x512 .f32) (K : FVec Ideal S1x1x256x128 .bf16) (x : Fin 512) :
    k0_pay5 v0 a K (ix2 0 x) = max (a (ix2 0 x)) (Finset.univ.fold max ⊥ fun i : Fin 256 => ∑ d : Fin 128, K (ix4 0 0 i d) * v0 (ix4 0 0 d x)) := by
  pointwise [k0_pay5, k0_pay4, ofBits_neg_inf]

/-- The next running sum: the carried one rescaled, plus the chunk's exponentials. -/
theorem pay8_at (v0 : FVec Ideal S1x1x128x512 .bf16) (a l : FVec Ideal S1x512 .f32) (K : FVec Ideal S1x1x256x128 .bf16) (x : Fin 512) :
    k0_pay8 v0 a l K (ix2 0 x) = Ideal.exp (a (ix2 0 x) - k0_pay5 v0 a K (ix2 0 x)) * l (ix2 0 x)
      + ∑ i : Fin 256, Ideal.exp ((∑ d : Fin 128, K (ix4 0 0 i d) * v0 (ix4 0 0 d x)) - k0_pay5 v0 a K (ix2 0 x)) := by
  pointwise [k0_pay8, k0_pay7, k0_pay6, k0_pay4]

/-- The next running weighted sum: the carried one rescaled, plus the chunk's values times their exponentials. -/
theorem pay9_at (v0 : FVec Ideal S1x1x128x512 .bf16) (a : FVec Ideal S1x512 .f32) (o : FVec Ideal S64x512 .f32) (K : FVec Ideal S1x1x256x128 .bf16) (V : FVec Ideal S1x1x1x64x256 .bf16) (h : Fin 64) (x : Fin 512) :
    k0_pay9 v0 a o K V (ix2 h x) = Ideal.exp (a (ix2 0 x) - k0_pay5 v0 a K (ix2 0 x)) * o (ix2 h x)
      + ∑ i : Fin 256, V (ix5 0 0 0 h i) * Ideal.exp ((∑ d : Fin 128, K (ix4 0 0 i d) * v0 (ix4 0 0 d x)) - k0_pay5 v0 a K (ix2 0 x)) := by
  pointwise [k0_pay9, k0_pay7, k0_pay6, k0_pay4]

/-- The stored entry: the weighted sum divided by the sum. -/
theorem pay10_at (l : FVec Ideal S1x512 .f32) (o : FVec Ideal S64x512 .f32) (h : Fin 64) (x : Fin 512) :
    k0_pay10 l o (ix3 0 h x) = Ideal.div (o (ix2 h x)) (l (ix2 0 x)) := by
  pointwise [k0_pay10]

/-- The running maximum starts at a real. -/
theorem pay1_at (x : Fin 512) : ∃ r : ℝ, (k0_pay1 (F := Ideal)) (ix2 0 x) = (r : EReal) := by
  obtain ⟨r, hr⟩ := ofBits_neg
  exact ⟨r, by pointwise [k0_pay1, hr]⟩

/-- The running sum starts at zero. -/
theorem pay2_at (x : Fin 512) : (k0_pay2 (F := Ideal)) (ix2 0 x) = 0 := by
  pointwise [k0_pay2]

/-- The running weighted sum starts at zero. -/
theorem pay3_at (h : Fin 64) (x : Fin 512) : (k0_pay3 (F := Ideal)) (ix2 h x) = 0 := by
  pointwise [k0_pay3]

/-- The loop makes 32 trips. -/
theorem trips_eq : Scf.trips (0#32) (Scalar.addi 0#32 32#32) 1#32 = 32 := by decide +kernel

/-- THE KERNEL'S BLOCK AT AN ENTRY: where the scores of query `x` are the reals `r`, what the kernel stores is the average
    of the values weighted by the exponentials of `r` less any real `ν`. -/
theorem out_at (𝒱 : Variants) (c : Dev nD) (bd : Option 𝒱.V) (i : grid0.Coords) (arg3 : Memref sig .tc .vmem S1x1x128x512 .bf16) (harg3 : arg3.IsWhole) (arg4 : Memref sig .tc .vmem S1x1x8192x128 .bf16) (harg4 : arg4.IsWhole) (arg5 : Memref sig .tc .vmem S1x1x32x64x256 .bf16) (harg5 : arg5.IsWhole) (arg6 : Memref sig .tc .vmem S1x64x512 .f32) (harg6 : arg6.IsWhole)
    (v0 : FVec Ideal S1x1x128x512 .bf16) (X4 : FVec Ideal S1x1x8192x128 .bf16) (X5 : FVec Ideal S1x1x32x64x256 .bf16)
    (h : Fin 64) (x : Fin 512) (r : Fin 8192 → ℝ) (ν : ℝ)
    (hr : ∀ j : Fin 8192, ∑ d : Fin 128, X4 (ix4 0 0 j d) * v0 (ix4 0 0 d x) = (r j : EReal)) :
    k0_pay10 (F := Ideal)
      (st_k0_t1 𝒱 c bd i arg3 harg3 arg4 harg4 arg5 harg5 arg6 harg6 v0 (harg4.unread (Val := Elt Ideal) X4) (harg5.unread (Val := Elt Ideal) X5) (k0_pay1, k0_pay2, k0_pay3) (Scf.trips (0#32) (Scalar.addi 0#32 32#32) 1#32)).2.1
      (st_k0_t1 𝒱 c bd i arg3 harg3 arg4 harg4 arg5 harg5 arg6 harg6 v0 (harg4.unread (Val := Elt Ideal) X4) (harg5.unread (Val := Elt Ideal) X5) (k0_pay1, k0_pay2, k0_pay3) (Scf.trips (0#32) (Scalar.addi 0#32 32#32) 1#32)).2.2
      (ix3 0 h x)
    = ∑ j : Fin 8192, Ideal.div (Ideal.exp ((r j : EReal) - (ν : EReal))) (∑ l : Fin 8192, Ideal.exp ((r l : EReal) - (ν : EReal)))
        * X5 (ix5 0 0 ⟨j.val / 256, by omega⟩ h ⟨j.val % 256, by omega⟩) := by
  rw [pay10_at, trips_eq]
  generalize hst : st_k0_t1 𝒱 c bd i arg3 harg3 arg4 harg4 arg5 harg5 arg6 harg6 v0 (harg4.unread (Val := Elt Ideal) X4) (harg5.unread (Val := Elt Ideal) X5) (k0_pay1, k0_pay2, k0_pay3) = st
  have h0 : st 0 = (k0_pay1, k0_pay2, k0_pay3) := by rw [← hst, st_k0_t1_zero]
  let v : Fin 8192 → EReal := fun j => X5 (ix5 0 0 ⟨j.val / 256, by omega⟩ h ⟨j.val % 256, by omega⟩)
  let s' : ℕ → Fin 256 → ℝ := fun k l => if hk : k < 32 then r ⟨k * 256 + l.val, by omega⟩ else 0
  let v' : ℕ → Fin 256 → EReal := fun k l => if hk : k < 32 then v ⟨k * 256 + l.val, by omega⟩ else 0
  have hstep : ∀ k < 32,
      (st (k + 1)).1 (ix2 0 x) = max ((st k).1 (ix2 0 x)) (Finset.univ.fold max ⊥ fun l => (s' k l : EReal))
      ∧ (st (k + 1)).2.1 (ix2 0 x) = Ideal.exp ((st k).1 (ix2 0 x) - (st (k + 1)).1 (ix2 0 x)) * (st k).2.1 (ix2 0 x)
          + ∑ l, Ideal.exp ((s' k l : EReal) - (st (k + 1)).1 (ix2 0 x))
      ∧ (st (k + 1)).2.2 (ix2 h x) = Ideal.exp ((st k).1 (ix2 0 x) - (st (k + 1)).1 (ix2 0 x)) * (st k).2.2 (ix2 h x)
          + ∑ l, v' k l * Ideal.exp ((s' k l : EReal) - (st (k + 1)).1 (ix2 0 x)) := by
    intro k hk
    have hT : k0_t1_loop.trips = 32 := trips_eq
    have hk' : k < k0_t1_loop.trips := by rw [hT]; exact hk
    obtain ⟨K, V, hK, hV, e⟩ := trip_eq 𝒱 c bd i arg3 harg3 arg4 harg4 arg5 harg5 arg6 harg6 v0 X4 X5 ⟨k, hk'⟩ (st k)
    have hs : st (k + 1) = (k0_pay5 v0 (st k).1 K, k0_pay8 v0 (st k).1 (st k).2.1 K, k0_pay9 v0 (st k).1 (st k).2.2 K V) := by
      rw [← e, ← hst]
      exact st_k0_t1_succ 𝒱 c bd i arg3 harg3 arg4 harg4 arg5 harg5 arg6 harg6 v0 (harg4.unread (Val := Elt Ideal) X4) (harg5.unread (Val := Elt Ideal) X5) (k0_pay1, k0_pay2, k0_pay3) ⟨k, hk'⟩
    have hsc : ∀ l : Fin 256, ∑ d : Fin 128, K (ix4 0 0 l d) * v0 (ix4 0 0 d x) = (s' k l : EReal) := by
      intro l
      simp only [s', dif_pos hk, ← hr, hK]
    have hvv : ∀ l : Fin 256, V (ix5 0 0 0 h l) = v' k l := by
      intro l
      simp only [v', v, dif_pos hk, hV]
      congr 2 <;> (apply Fin.ext; simp only []; omega)
    rw [hs]
    refine ⟨?_, ?_, ?_⟩
    · dsimp only
      rw [pay5_at]; simp only [hsc]
    · dsimp only
      rw [pay8_at]; simp only [hsc]
    · dsimp only
      rw [pay9_at]; simp only [hsc, hvv]
  obtain ⟨m0, hm0⟩ := pay1_at x
  obtain ⟨μ, -, hL, hA⟩ := OnlineSoftmax.recurrence 32 s' v' (fun k => (st k).1 (ix2 0 x)) (fun k => (st k).2.1 (ix2 0 x)) (fun k => (st k).2.2 (ix2 h x)) m0
    (by rw [h0]; exact hm0) (by rw [h0]; exact pay2_at x) (by rw [h0]; exact pay3_at h x)
    (fun k hk => (hstep k hk).1) (fun k hk => (hstep k hk).2.1) (fun k hk => (hstep k hk).2.2) 32 le_rfl
  have eL : ∑ p ∈ Finset.range 32, ∑ l, (Real.exp (s' p l - μ) : EReal) = ∑ j : Fin 8192, (Real.exp (r j - μ) : EReal) := by
    rw [Finset.sum_range, Fin.sum_univ_tiles 32 256 rfl]
    refine Finset.sum_congr rfl fun p _ => Finset.sum_congr rfl fun l _ => ?_
    simp only [s', dif_pos p.isLt]
  have eA : ∑ p ∈ Finset.range 32, ∑ l, v' p l * (Real.exp (s' p l - μ) : EReal) = ∑ j : Fin 8192, v j * (Real.exp (r j - μ) : EReal) := by
    rw [Finset.sum_range, Fin.sum_univ_tiles 32 256 rfl]
    refine Finset.sum_congr rfl fun p _ => Finset.sum_congr rfl fun l _ => ?_
    simp only [s', v', dif_pos p.isLt]
  rw [hL, hA, eL, eA]
  exact OnlineSoftmax.average r v μ ν

end Cert.MlaIdeal.Attn
end
-- ==== Proof.MlaReference.lean ====
/-
  The reference attention's result, read at one index: the softmax-weighted average of the values.
-/
module

public import proofs.«01_k».proof.Proof.OnlineSoftmax
public import proofs.«01_k».proof.Proof.Gen.MlaRefIdeal.Run
public import Idealize.ShloMosaic.Lib.Pointwise

@[expose] public section

set_option maxRecDepth 16384

noncomputable section

namespace Cert.MlaRefIdeal.Attn

open Cert.MlaRefIdeal Cert.MlaRefIdeal.Gen Idealize.ShloMosaic Idealize.ShloMosaic.TcCoe Idealize.SL.Sem

/-- The scores: query `q` against key `k`, per batch and head. -/
def SC (Q : FVec Ideal S4x8x128x8192 .bf16) (K : FVec Ideal S4x8x8192x128 .bf16) : FVec Ideal S4x8x8192x8192 .f32 :=
  Host.dotGeneral dot_S4x8x8192x128_S4x8x8192x128_S4x8x8192x8192_3_3_2_2_01_01 none (transpose S4x8x8192x128 [0, 1, 3, 2] (extf .f32 Q bitsLt_bf16_f32) transposes_S4x8x128x8192_S4x8x8192x128_0_1_3_2) (extf .f32 K bitsLt_bf16_f32)

/-- The largest score of each query, a maximum from `z`. -/
def RM (z : FVec Ideal S_ .f32) (S : FVec Ideal S4x8x8192x8192 .f32) : FVec Ideal S4x8x8192 .f32 :=
  Host.reduce FloatOps.maximumf S z reducesTo_S4x8x8192x8192_S4x8x8192_d3 h_S_

/-- The larger of `z` and each query's largest score. -/
def MX (z : FVec Ideal S_ .f32) (R : FVec Ideal S4x8x8192 .f32) : FVec Ideal S4x8x8192 .f32 :=
  maximumf (broadcastInDim S4x8x8192 ![] bcast_S_S4x8x8192 z) R

/-- The exponentials of the scores less their query's shift. -/
def EX (S : FVec Ideal S4x8x8192x8192 .f32) (M : FVec Ideal S4x8x8192 .f32) : FVec Ideal S4x8x8192x8192 .f32 :=
  Host.exp (subf S (broadcastInDim S4x8x8192x8192 ![0, 1, 2, 3] bcast_S4x8x8192x1_S4x8x8192x8192_0_1_2_3 (broadcastInDim S4x8x8192x1 ![0, 1, 2] bcast_S4x8x8192_S4x8x8192x1_0_1_2 M)))

/-- The exponentials divided by their query's sum. -/
def PR (X : FVec Ideal S4x8x8192x8192 .f32) : FVec Ideal S4x8x8192x8192 .f32 :=
  Host.divf X (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd X (constant S_ .f32 0x00000000#32) reducesTo_S4x8x8192x8192_S4x8x8192_d3 h_S_)))

/-- The weights applied to the values, in the result's layout. -/
def OUT (P : FVec Ideal S4x8x8192x8192 .f32) (V : FVec Ideal S4x8x32x64x256 .bf16) : FVec Ideal S4x512x8192 .f32 :=
  shapeCast S4x512x8192 (transpose S4x8x64x8192 [0, 1, 3, 2] (Host.dotGeneral dot_S4x8x8192x8192_S4x8x8192x64_S4x8x8192x64_3_2_2_3_01_01 none P (shapeCast S4x8x8192x64 (transpose S4x8x32x256x64 [0, 1, 2, 4, 3] (extf .f32 V bitsLt_bf16_f32) transposes_S4x8x32x64x256_S4x8x32x256x64_0_1_2_4_3) shapeCasts_S4x8x32x256x64_S4x8x8192x64)) transposes_S4x8x8192x64_S4x8x64x8192_0_1_3_2) shapeCasts_S4x8x64x8192_S4x512x8192

/-- The reference's result as one term over its queries, keys and values. -/
def REF (Q : FVec Ideal S4x8x128x8192 .bf16) (K : FVec Ideal S4x8x8192x128 .bf16) (V : FVec Ideal S4x8x32x64x256 .bf16) :
    FVec Ideal S4x512x8192 .f32 :=
  OUT (PR (EX (SC Q K) (MX (constant S_ .f32 0xFF800000#32) (RM (constant S_ .f32 0xFF800000#32) (SC Q K))))) V

/-- `-∞` of the format, read as the least extended real. -/
theorem ofBits_neg_inf : Ideal.ofBits .f32 0xFF800000#32 = (⊥ : EReal) := by
  simp [Ideal.ofBits, Ideal.ieee]

/-- A score is the inner product of its query and its key. -/
theorem SC_at (Q : FVec Ideal S4x8x128x8192 .bf16) (K : FVec Ideal S4x8x8192x128 .bf16) (b : Fin 4) (e : Fin 8) (q k : Fin 8192) :
    SC Q K (ix4 b e q k) = ∑ d : Fin 128, K (ix4 b e k d) * Q (ix4 b e d q) := by
  pointwise [SC]
  exact Finset.sum_congr rfl fun d _ => mul_comm _ _

/-- The largest score, as a maximum from the start `z`. -/
theorem RM_at (z : FVec Ideal S_ .f32) (S : FVec Ideal S4x8x8192x8192 .f32) (b : Fin 4) (e : Fin 8) (q : Fin 8192) :
    RM z S (ix3 b e q) = Finset.univ.fold max (z (Shape.Idx.first h_S_)) fun k : Fin 8192 => S (ix4 b e q k) := by
  pointwise [RM]

/-- The larger of the start and a query's largest score. -/
theorem MX_at (z : FVec Ideal S_ .f32) (R : FVec Ideal S4x8x8192 .f32) (b : Fin 4) (e : Fin 8) (q : Fin 8192) :
    MX z R (ix3 b e q) = max (z ix0) (R (ix3 b e q)) := by
  pointwise [MX]

/-- `-∞`, as the host's rank-0 constant. -/
theorem neg_inf_at (i : S_.Idx) : (constant (F := Ideal) S_ .f32 0xFF800000#32) i = (⊥ : EReal) :=
  ofBits_neg_inf

/-- An exponential, read at its query and key. -/
theorem EX_at (S : FVec Ideal S4x8x8192x8192 .f32) (M : FVec Ideal S4x8x8192 .f32) (b : Fin 4) (e : Fin 8) (q k : Fin 8192) :
    EX S M (ix4 b e q k) = Ideal.exp (S (ix4 b e q k) - M (ix3 b e q)) := by
  pointwise [EX]

/-- A weight, read at its query and key. -/
theorem PR_at (X : FVec Ideal S4x8x8192x8192 .f32) (b : Fin 4) (e : Fin 8) (q k : Fin 8192) :
    PR X (ix4 b e q k) = Ideal.div (X (ix4 b e q k)) (∑ l : Fin 8192, X (ix4 b e q l)) := by
  pointwise [PR]

/-- The result at row `r` of the merged head and value axes is the weighted sum over the keys. -/
theorem OUT_at (P : FVec Ideal S4x8x8192x8192 .f32) (V : FVec Ideal S4x8x32x64x256 .bf16) (b : Fin 4) (r : Fin 512) (q : Fin 8192) :
    OUT P V (ix3 b r q) = ∑ k : Fin 8192, P (ix4 b ⟨r.val / 64, by omega⟩ q k) * V (ix5 b ⟨r.val / 64, by omega⟩ ⟨k.val / 256, by omega⟩ ⟨r.val % 64, by omega⟩ ⟨k.val % 256, by omega⟩) := by
  pointwise [OUT]

/-- THE REFERENCE AT AN INDEX: where the query's scores are the reals `s`, the result is the average of the values
    weighted by the normalised exponentials of the scores less some real `ν`. -/
theorem ref_at (Q : FVec Ideal S4x8x128x8192 .bf16) (K : FVec Ideal S4x8x8192x128 .bf16) (V : FVec Ideal S4x8x32x64x256 .bf16)
    (b : Fin 4) (r : Fin 512) (q : Fin 8192) (s : Fin 8192 → ℝ)
    (hs : ∀ k : Fin 8192, ∑ d : Fin 128, K (ix4 b ⟨r.val / 64, by omega⟩ k d) * Q (ix4 b ⟨r.val / 64, by omega⟩ d q) = (s k : EReal)) :
    ∃ ν : ℝ, REF Q K V (ix3 b r q) = ∑ k : Fin 8192,
      Ideal.div (Ideal.exp ((s k : EReal) - (ν : EReal))) (∑ l : Fin 8192, Ideal.exp ((s l : EReal) - (ν : EReal)))
        * V (ix5 b ⟨r.val / 64, by omega⟩ ⟨k.val / 256, by omega⟩ ⟨r.val % 64, by omega⟩ ⟨k.val % 256, by omega⟩) := by
  obtain ⟨ν, hν⟩ := OnlineSoftmax.fold_max_bot s
  refine ⟨ν, ?_⟩
  have h1 : ∀ k : Fin 8192, SC Q K (ix4 b ⟨r.val / 64, by omega⟩ q k) = (s k : EReal) := fun k => (SC_at Q K b _ q k).trans (hs k)
  have h2 : MX (constant S_ .f32 0xFF800000#32) (RM (constant S_ .f32 0xFF800000#32) (SC Q K)) (ix3 b ⟨r.val / 64, by omega⟩ q) = (ν : EReal) := by
    rw [MX_at, RM_at, neg_inf_at, neg_inf_at]
    simp only [h1, hν]
    exact max_eq_right bot_le
  unfold REF
  rw [OUT_at]
  refine Finset.sum_congr rfl fun k _ => ?_
  rw [PR_at]
  simp only [EX_at, h1, h2]

end Cert.MlaRefIdeal.Attn

end
-- ==== Proof.MlaFinal.lean ====
/-
  The attention kernel's result array is the reference's result where the queries and keys are finite.
-/
module

public import proofs.«01_k».proof.Proof.MlaValue
public import proofs.«01_k».proof.Proof.MlaReference
public import proofs.«01_k».proof.Proof.Gen.Pre_mla_finite

@[expose] public section

set_option maxRecDepth 16384

noncomputable section

namespace Cert.MlaIdeal.Attn

open Cert.MlaIdeal Cert.MlaIdeal.Gen Idealize.ShloMosaic Idealize.ShloMosaic.TcCoe Idealize.SL.Sem
open Idealize.ShloMosaic.Pipeline (Dat)

/-- `∞` of the format, read as the greatest extended real. -/
theorem ofBits_inf : Ideal.ofBits .f32 0x7F800000#32 = (⊤ : EReal) := by
  simp [Ideal.ofBits, Ideal.ieee]

/-- An extended real whose absolute value the comparison finds below `∞` is a real. -/
theorem real_of_abs_lt {x : EReal} (h : BitVec.ofBool (decide (max x (-x) < ⊤)) = 1#1) : ∃ r : ℝ, x = (r : EReal) := by
  induction x with
  | bot => simp at h
  | top => simp at h
  | coe r => exact ⟨r, rfl⟩

/-- Where the precondition holds every query entry is a real. -/
theorem real_q (Q : FVec Ideal S4x8x128x8192 .bf16) (K : FVec Ideal S4x8x8192x128 .bf16) (V : FVec Ideal S4x8x32x64x256 .bf16)
    (h : (Cert.Pre_mla_finite.fn (F := Ideal) Q K V).1 = fun _ => 1#1) (i : S4x8x128x8192.Idx) : ∃ r : ℝ, Q i = (r : EReal) := by
  have := congrFun h i
  pointwise [Cert.Pre_mla_finite.fn, ofBits_inf] at this
  exact real_of_abs_lt this

/-- Where the precondition holds every key entry is a real. -/
theorem real_k (Q : FVec Ideal S4x8x128x8192 .bf16) (K : FVec Ideal S4x8x8192x128 .bf16) (V : FVec Ideal S4x8x32x64x256 .bf16)
    (h : (Cert.Pre_mla_finite.fn (F := Ideal) Q K V).2 = fun _ => 1#1) (i : S4x8x8192x128.Idx) : ∃ r : ℝ, K i = (r : EReal) := by
  have := congrFun h i
  pointwise [Cert.Pre_mla_finite.fn, ofBits_inf] at this
  exact real_of_abs_lt this

/-- The inner product of real vectors is a real. -/
theorem real_sum {n : ℕ} (f g : Fin n → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  exact ⟨∑ i, a i * b i, by rw [OnlineSoftmax.coe_sum]; exact Finset.sum_congr rfl fun i _ => by rw [ha, hb, EReal.coe_mul]⟩

variable (m : (ℓ : Loc nD τ sig) → Buf (Elt Ideal) ℓ)

/-- The blocks a grid point reads and writes: batch `t / 128`, head `t / 16 % 8`, query tile `t % 16`. -/
theorem idx : ∀ t : Fin cfg0.N, win0_0.index t = ![t.val / 128, t.val / 16 % 8, 0, t.val % 16] ∧ win0_1.index t = ![t.val / 128, t.val / 16 % 8, 0, 0]
    ∧ win0_2.index t = ![t.val / 128, t.val / 16 % 8, 0, 0, 0] ∧ win0_3.index t = ![t.val / 128, t.val / 16 % 8, t.val % 16] :=
  (by decide +kernel : ∀ t : Fin grid0.N, _)

/-- THE RESULT ARRAY: where the queries and keys are reals, the array the kernel leaves is the reference's. -/
theorem final (c : Dev nD)
    (hQ : ∀ i : S4x8x128x8192.Idx, ∃ r : ℝ, (m ((c : Thread nD τ).loc main_arg0)) i = (r : EReal))
    (hK : ∀ i : S4x8x8192x128.Idx, ∃ r : ℝ, (m ((c : Thread nD τ).loc main_arg1)) i = (r : EReal)) :
    (dats m 0 c).arrAt 3 (cfgs 0).N
      = Cert.MlaRefIdeal.Attn.REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold outsAt0; frame_out
  have hN : t.val < 512 := lt_of_lt_of_eq t.isLt N_0
  generalize hQm : (m ((c : Thread nD τ).loc main_arg0)) = Q at hQ ⊢
  generalize hKm : (m ((c : Thread nD τ).loc main_arg1)) = K at hK ⊢
  generalize hVm : (m ((c : Thread nD τ).loc main_arg2)) = V
  obtain ⟨h, x, rfl⟩ : ∃ (h : Fin 64) (x : Fin 512), y = ix3 0 h x := ⟨y 1, y 2, by blk_ext []⟩
  have y1 := h.isLt
  have y2 := x.isLt
  have ej : ((View.whole main_v0).slice (win0_3.rect t)).emb (ix3 0 h x)
      = ix3 ⟨t.val / 128, by omega⟩ ⟨t.val / 16 % 8 * 64 + h.val, by omega⟩ ⟨t.val % 16 * 512 + x.val, by omega⟩ := by
    blk_ext [idx t]
  rw [ej]
  have hS := fun k : Fin 8192 => real_sum (fun d : Fin 128 => K (ix4 ⟨t.val / 128, by omega⟩ ⟨(t.val / 16 % 8 * 64 + h.val) / 64, by omega⟩ k d))
    (fun d : Fin 128 => Q (ix4 ⟨t.val / 128, by omega⟩ ⟨(t.val / 16 % 8 * 64 + h.val) / 64, by omega⟩ d ⟨t.val % 16 * 512 + x.val, by omega⟩))
    (fun d => hK _) (fun d => hQ _)
  choose s hs using hS
  obtain ⟨ν, hν⟩ := Cert.MlaRefIdeal.Attn.ref_at Q K V ⟨t.val / 128, by omega⟩ ⟨t.val / 16 % 8 * 64 + h.val, by omega⟩ ⟨t.val % 16 * 512 + x.val, by omega⟩ s hs
  rw [hν]
  refine (out_at Variants.none c none (grid0.coords t) (ms0_0 t) (hs0_0 t) (ms0_1 t) (hs0_1 t) (ms0_2 t) (hs0_2 t) (ms0_3 t) (hs0_3 t) (iblk m c 0 t) (iblk m c 1 t) (iblk m c 2 t) h x s ν ?_).trans ?_
  · intro k
    rw [← hs k]
    refine Finset.sum_congr rfl fun d _ => ?_
    refine Ideal.mul_congr ?_ ?_
    · subst hKm
      refine congrArg (m ((c : Thread nD τ).loc main_arg1)) (a₁ := ((View.whole main_arg1).slice (win0_1.rect t)).emb _) ?_
      blk_ext [idx t]
    · subst hQm
      refine congrArg (m ((c : Thread nD τ).loc main_arg0)) (a₁ := ((View.whole main_arg0).slice (win0_0.rect t)).emb _) ?_
      blk_ext [idx t]
  · refine Finset.sum_congr rfl fun k _ => ?_
    refine Ideal.mul_congr rfl ?_
    subst hVm
    blk_ext [iblk, V, idx t]

end Cert.MlaIdeal.Attn

end
-- ==== Proof.MlaClaims.lean ====
/- The claims about the latent attention: its frames, and its value claim assembled from the kernel's final array
   (`MlaFinal`) and the reference's composed term. -/
module

public import proofs.«01_k».proof.Defs
public import proofs.«01_k».proof.Proof.MlaFinal
public import proofs.«01_k».proof.Proof.Gen.Mla.Frame
public import proofs.«01_k».proof.Proof.Gen.MlaIdeal.Frame
public import proofs.«01_k».proof.Proof.Gen.MlaRefIdeal.Run
public import Idealize.ShloMosaic.Lib.Claim
public import Idealize.ShloMosaic.Lib.Quiescent

@[expose] public section

set_option maxRecDepth 16384

noncomputable section

namespace Cert.Proof

open Idealize.ShloMosaic Idealize.SL.Sem Cert.Mla

/-- The kernel, as written, leaves its arguments as they were and every semaphore at zero. -/
theorem frame_Mla : Cert.quiescent_Mla := fun m ρ _ => Cert.Mla.Gen.frame m ρ

/-- The same of the kernel read at the extended reals. -/
theorem frame_MlaIdeal : Cert.quiescent_MlaIdeal := fun m ρ _ => Cert.MlaIdeal.Gen.frame m ρ

/-- The same where queries and keys are finite. -/
theorem frame_MlaIdeal_finite : Cert.quiescent_MlaIdeal_pre_mla_finite := fun m ρ _ => Cert.MlaIdeal.Gen.frame m ρ

/-- The reference leaves its arguments as they were and every semaphore at zero. -/
theorem frame_MlaRefIdeal : Cert.quiescent_MlaRefIdeal := by
  intro m g _
  hlo_run
  · exact fun _ => ⟨trivial, trivial, trivial⟩
  · exact sem_eq_zero_of_no_sems (by decide) _

/-- The same where queries and keys are finite. -/
theorem frame_MlaRefIdeal_finite : Cert.quiescent_MlaRefIdeal_pre_mla_finite :=
  fun m g _ => frame_MlaRefIdeal m g trivial

/-- At finite queries and keys the kernel's result is the reference's, entry by entry. -/
theorem algebraic_Mla : Cert.algebraic_MlaIdeal_MlaRefIdeal_pre_mla_finite := by
  pair_intro
  · run_from Cert.MlaIdeal.Gen.run_main m g
  · run_from Cert.MlaRefIdeal.Value.run m' g'
    exact (Cert.MlaIdeal.Attn.final m c (Cert.MlaIdeal.Attn.real_q _ _ _ (hpre c).1) (Cert.MlaIdeal.Attn.real_k _ _ _ (hpre c).2)).symm

end Cert.Proof

end
-- ==== Proof.FfnMath.lean ====
/-
  The feed-forward layer's mathematics, over the extended reals: row norms, the up-projection, the depthwise
  convolution along the sequence, the gated product and the down-projection.
-/
module

public import Idealize.ShloMosaic.Lib.Pointwise
public import Idealize.ShloMosaic.Lib.Pipeline.ValueKit

@[expose] public section

noncomputable section

namespace ConvFfn

open Idealize.ShloMosaic

/-- An entry of the root-mean-square norm of the row `x` with gain `g`. -/
def norm (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- The row before row `R` of the four sequences laid end to end. -/
def before (R : Fin 32768) : Fin 32768 := ⟨(R.val + 32767) % 32768, Nat.mod_lt _ (by omega)⟩

/-- The row after row `R`. -/
def after (R : Fin 32768) : Fin 32768 := ⟨(R.val + 1) % 32768, Nat.mod_lt _ (by omega)⟩

/-- The up-projection of row `R`'s norm, in column `n`. -/
def up (X : Fin 32768 → Fin 1024 → EReal) (g : Fin 1024 → EReal) (W : Fin 1024 → Fin 5632 → EReal) (R : Fin 32768) (n : Fin 5632) : EReal :=
  ∑ k : Fin 1024, norm (X R) g k * W k n

/-- The depthwise convolution of width three along a sequence of 8192 rows, zero beyond its ends. -/
def cv (u : Fin 32768 → EReal) (c0 c1 c2 b : EReal) (R : Fin 32768) : EReal :=
  (if R.val % 8192 = 0 then 0 else u (before R)) * c0 + u R * c1 + (if R.val % 8192 = 8191 then 0 else u (after R)) * c2 + b

/-- A gate's value times its sigmoid. -/
def silu (x : EReal) : EReal := x * Ideal.div 1 (1 + Ideal.exp (-x))

/-- One entry of the layer's result from the convolved rows `v`: the row itself plus the projected gated products. -/
def outAt (x : EReal) (v : Fin 5632 → EReal) (D : Fin 2816 → EReal) : EReal :=
  x + ∑ k : Fin 2816, silu (v ⟨k.val, by omega⟩) * v ⟨2816 + k.val, by omega⟩ * D k

/-- One more than an exponential is not zero. -/
theorem one_add_exp_ne_zero (x : EReal) : 1 + Ideal.exp x ≠ 0 := by
  induction x with
  | bot => simp
  | top =>
    rw [Ideal.exp_top, ← EReal.coe_one, EReal.coe_add_top]
    exact EReal.top_ne_zero
  | coe r =>
    rw [Ideal.exp_coe, ← EReal.coe_one, ← EReal.coe_add]
    exact EReal.coe_ne_zero.mpr (by positivity)

/-- The gate over one plus the exponential of its negation is the gate times its sigmoid. -/
theorem silu_eq (x : EReal) : Ideal.div x (1 + Ideal.exp (0 - x)) = silu x := by
  unfold silu Ideal.div
  rw [zero_sub, if_neg (one_add_exp_ne_zero _), if_neg (one_add_exp_ne_zero _), one_mul]

end ConvFfn

end
-- ==== Proof.FfnPayloads.lean ====
/-
  The feed-forward kernel's payloads, read at one entry.
-/
module

public import proofs.«01_k».proof.Proof.FfnMath
public import proofs.«01_k».proof.Proof.Gen.FfnIdeal.Skeleton
public import Idealize.ShloMosaic.Lib.Pointwise
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem

/-- The row tile's norm, entry by entry. -/
theorem pay4_at (g : FVec Ideal S1x1024 .f32) (x : FVec Ideal S1024x1024 .f32) (r j : Fin 1024) :
    k0_pay4 (F := Ideal) g x (ix2 r j) = ConvFfn.norm (fun j => x (ix2 r j)) (fun j => g (ix2 0 j)) j := by
  pointwise [k0_pay4, k0_pay3, ConvFfn.norm]

/-- The norm of the rows before the tile, entry by entry. -/
theorem pay5_at (g : FVec Ideal S1x1024 .f32) (x : FVec Ideal S8x1024 .f32) (r : Fin 8) (j : Fin 1024) :
    k0_pay5 (F := Ideal) g x (ix2 r j) = ConvFfn.norm (fun j => x (ix2 r j)) (fun j => g (ix2 0 j)) j := by
  pointwise [k0_pay5, k0_pay3, ConvFfn.norm]

/-- The norm of the rows after the tile, entry by entry. -/
theorem pay7_at (g : FVec Ideal S1x1024 .f32) (x : FVec Ideal S8x1024 .f32) (r : Fin 8) (j : Fin 1024) :
    k0_pay7 (F := Ideal) (k0_pay3 g) (k0_pay6 x) (ix2 r j) = ConvFfn.norm (fun j => x (ix2 r j)) (fun j => g (ix2 0 j)) j := by
  pointwise [k0_pay7, k0_pay3, k0_pay6, ConvFfn.norm]

/-- A step of the accumulation: the accumulator plus the products projected down. -/
theorem pay1_at (a : FVec Ideal S1024x1024 .f32) (p : FVec Ideal S1024x256 .bf16) (w : FVec Ideal S256x1024 .bf16) (r q : Fin 1024) :
    k0_pay1 (F := Ideal) a p (k0_pay18 w) (ix2 r q) = a (ix2 r q) + ∑ k : Fin 256, p (ix2 r k) * w (ix2 k q) := by
  pointwise [k0_pay1, k0_pay18]

/-- The tile plus the accumulator. -/
theorem pay2_at (a b : FVec Ideal S1024x1024 .f32) (r q : Fin 1024) :
    k0_pay2 (F := Ideal) a b (ix2 r q) = a (ix2 r q) + b (ix2 r q) := by
  pointwise [k0_pay2]

/-- The accumulator starts at zero. -/
theorem pay8_at (r q : Fin 1024) : (k0_pay8 (F := Ideal)) (ix2 r q) = 0 := by
  pointwise [k0_pay8]

/-- A choice on the row number being `n`, as an if. -/
theorem sel_row (r : Fin 1024) (k : Fin 256) (n : ℕ) (hn : n < 1024) (a b : EReal) :
    Scalar.select (IntOp.cmpi CmpIPredicate.eq ((iota .tc S1024x256 32 [0] iota_S1024x256_d0_w32) (ix2 r k)) (BitVec.ofNat 32 n)) a b = if r.val = n then a else b := by
  pointwise
  have h : (BitVec.ofNat 32 r.val == BitVec.ofNat 32 n) = decide (r.val = n) := by
    by_cases e : r.val = n
    · simp [e]
    · have : BitVec.ofNat 32 r.val ≠ BitVec.ofNat 32 n := fun h' => e (by
        have := congrArg BitVec.toNat h'
        simp only [BitVec.toNat_ofNat] at this
        omega)
      simp [e, this]
  have h2 : IntOp.cmpi CmpIPredicate.eq (BitVec.ofNat 32 r.val) (BitVec.ofNat 32 n) = 1 ↔ r.val = n := by
    show BitVec.ofBool (BitVec.ofNat 32 r.val == BitVec.ofNat 32 n) = 1 ↔ _
    rw [h]
    by_cases e : r.val = n <;> simp [e]
  exact if_congr h2 rfl rfl

/-- A row of the depthwise convolution: the row above, the row and the row below, the outer two from the halo at the
    tile's ends. -/
def conv (u : Fin 1024 → EReal) (a b c0 c1 c2 d : EReal) (r : Fin 1024) : EReal :=
  (if r.val = 0 then a else u ⟨(r.val + 1023) % 1024, Nat.mod_lt _ (by omega)⟩) * c0 + u r * c1
    + (if r.val = 1023 then b else u ⟨(r.val + 1) % 1024, Nat.mod_lt _ (by omega)⟩) * c2 + d

/-- The gate columns' convolution, entry by entry. -/
theorem pay11_at (v3 : FVec Ideal S1024x1024 .bf16) (v4 : FVec Ideal S16x1024 .bf16) (p n : EReal) (w : FVec Ideal S1024x256 .bf16)
    (c0 c1 c2 b : FVec Ideal S1x256 .f32) (r : Fin 1024) (k : Fin 256) :
    k0_pay11 (F := Ideal) v3 v4 p n (iota .tc S1024x256 32 [0] iota_S1024x256_d0_w32) w c0 c1 c2 b (ix2 r k)
      = conv (fun r => ∑ x : Fin 1024, v3 (ix2 r x) * w (ix2 x k)) ((∑ x : Fin 1024, v4 (ix2 7 x) * w (ix2 x k)) * p)
          ((∑ x : Fin 1024, v4 (ix2 8 x) * w (ix2 x k)) * n) (c0 (ix2 0 k)) (c1 (ix2 0 k)) (c2 (ix2 0 k)) (b (ix2 0 k)) r := by
  generalize hI : iota .tc S1024x256 32 [0] iota_S1024x256_d0_w32 = I
  pointwise [k0_pay11]
  subst hI
  rw [sel_row r k 0 (by omega), sel_row r k 1023 (by omega)]
  rfl

/-- The gated products, entry by entry: the gate over one plus the exponential of its negation, times the value columns' convolution. -/
theorem pay17_at (v3 : FVec Ideal S1024x1024 .bf16) (v4 : FVec Ideal S16x1024 .bf16) (p n : EReal) (w : FVec Ideal S1024x256 .bf16) (g : FVec Ideal S1024x256 .f32)
    (c0 c1 c2 b : FVec Ideal S1x256 .f32) (r : Fin 1024) (k : Fin 256) :
    k0_pay17 (F := Ideal) n (iota .tc S1024x256 32 [0] iota_S1024x256_d0_w32) g (k0_pay13 v3 w) (k0_pay14 v4 w) (k0_pay15 v4 w) (k0_pay16 p) c0 c1 c2 b (ix2 r k)
      = Ideal.div (g (ix2 r k)) (1 + Ideal.exp (0 - g (ix2 r k)))
        * conv (fun r => ∑ x : Fin 1024, v3 (ix2 r x) * w (ix2 x k)) ((∑ x : Fin 1024, v4 (ix2 7 x) * w (ix2 x k)) * p)
          ((∑ x : Fin 1024, v4 (ix2 8 x) * w (ix2 x k)) * n) (c0 (ix2 0 k)) (c1 (ix2 0 k)) (c2 (ix2 0 k)) (b (ix2 0 k)) r := by
  generalize hI : iota .tc S1024x256 32 [0] iota_S1024x256_d0_w32 = I
  pointwise [k0_pay17, k0_pay13, k0_pay14, k0_pay15, k0_pay16, k0_pay12]
  subst hI
  rw [sel_row r k 0 (by omega), sel_row r k 1023 (by omega)]
  rfl

/-- The chain of integer operations by which the kernel asks whether `a` is no multiple of 8. -/
def flag (a : BitVec 32) : BitVec 32 :=
  let v6 : BitVec 32 := Scalar.select (Scalar.cmpi .eq 8#32 0#32) 1#32 8#32
  let v7 : BitVec 32 := Scalar.remsi a v6
  let v12 : BitVec 1 := Scalar.andi (Scalar.xori (Scalar.cmpi .slt v7 0#32) (Scalar.cmpi .slt v6 0#32)) (Scalar.cmpi .ne v7 0#32)
  Scalar.extui (Scalar.cmpi .ne (Scalar.select v12 (Scalar.addi v7 v6) v7) 0#32)

/-- The chain of integer operations says 0 at the multiples of 8 and 1 elsewhere. -/
theorem flag_eq : ∀ n : Fin 33, flag (BitVec.ofNat 32 n.val) = if n.val % 8 = 0 then 0#32 else 1#32 := by
  decide +kernel

/-- The factor of the row before the tile: 0 at a sequence's first tile, else 1. -/
theorem pay9_eq (i : grid0.Coords) : k0_pay9 (F := Ideal) i = if (i 0).val % 8 = 0 then 0 else 1 := by
  have h : k0_pay9 (F := Ideal) i = Scalar.sitofp .f32 (flag (BitVec.ofNat 32 (i 0).val)) := rfl
  rw [h, flag_eq ⟨(i 0).val, lt_trans (i 0).isLt (by decide)⟩]
  by_cases e : (i 0).val % 8 = 0
  · rw [if_pos e, if_pos e]
    show ((((0#32 : BitVec 32).toInt : ℤ) : ℝ) : EReal) = 0
    simp
  · rw [if_neg e, if_neg e]
    show ((((1#32 : BitVec 32).toInt : ℤ) : ℝ) : EReal) = 1
    simp

/-- The factor of the row after the tile: 0 at a sequence's last tile, else 1. -/
theorem pay10_eq (i : grid0.Coords) : k0_pay10 (F := Ideal) i = if ((i 0).val + 1) % 8 = 0 then 0 else 1 := by
  have h : k0_pay10 (F := Ideal) i = Scalar.sitofp .f32 (flag (Scalar.addi (BitVec.ofNat 32 (i 0).val) 1#32)) := rfl
  have e : Scalar.addi (BitVec.ofNat 32 (i 0).val) 1#32 = BitVec.ofNat 32 ((i 0).val + 1) := by
    simp [Scalar.addi, IntOp.addi, BitVec.ofNat_add]
  rw [h, e, flag_eq ⟨(i 0).val + 1, Nat.succ_lt_succ (i 0).isLt⟩]
  by_cases e : ((i 0).val + 1) % 8 = 0
  · rw [if_pos e, if_pos e]
    show ((((0#32 : BitVec 32).toInt : ℤ) : ℝ) : EReal) = 0
    simp
  · rw [if_neg e, if_neg e]
    show ((((1#32 : BitVec 32).toInt : ℤ) : ℝ) : EReal) = 1
    simp

end Cert.FfnIdeal.Value

end
-- ==== Proof.FfnValue.lean ====
/-
  What the feed-forward kernel carries from one grid point to the next.
-/
module

public import proofs.«01_k».proof.Proof.FfnPayloads
public import proofs.«01_k».proof.Proof.Gen.FfnIdeal.Frame
public import Idealize.ShloMosaic.Lib.Pipeline.ReadBack

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Row `a` of the three taps. -/
abbrev ldr (c : FVec Ideal S3x256 .f32) (a : Nat) (inb : ∀ x, ![a, 0] x + ![1, 256] x ≤ S3x256.size x) : FVec Ideal S1x256 .f32 :=
  View.ld (Val := Elt Ideal) (e' := .f32) c (Rect.unit (s := S3x256) ![a, 0] ![1, 256] inb)

/-- One inner step: the accumulator plus this tile's gated products times its down-projection block. -/
def stepT (i : grid0.Coords) (hn : FVec Ideal S1024x1024 .bf16) (hh : FVec Ideal S16x1024 .bf16) (acc : FVec Ideal S1024x1024 .f32)
    (w4 w5 : FVec Ideal S1024x256 .bf16) (c6 c7 : FVec Ideal S3x256 .f32) (b8 b9 : FVec Ideal S1x256 .f32) (d10 : FVec Ideal S256x1024 .bf16) :
    FVec Ideal S1024x1024 .f32 :=
  k0_pay1 (F := Ideal) acc
    (k0_pay17 (k0_pay10 i) (iota Kind.tc S1024x256 32 [0] iota_S1024x256_d0_w32)
      (k0_pay11 hn hh (k0_pay9 i) (k0_pay10 i) (iota Kind.tc S1024x256 32 [0] iota_S1024x256_d0_w32) w4
        (ldr c6 0 inb_S3x256_S1x256_0_0) (ldr c6 1 inb_S3x256_S1x256_1_0)
        (ldr c6 2 inb_S3x256_S1x256_2_0) b8)
      (k0_pay13 hn w5) (k0_pay14 hh w5) (k0_pay15 hh w5) (k0_pay16 (k0_pay9 i))
      (ldr c7 0 inb_S3x256_S1x256_0_0) (ldr c7 1 inb_S3x256_S1x256_1_0)
      (ldr c7 2 inb_S3x256_S1x256_2_0) b9)
    (k0_pay18 d10)

/-- One column of the convolved up-projection of a tile: its own rows `hn` and the two halo rows of `hh`. -/
def col (i : grid0.Coords) (hn : FVec Ideal S1024x1024 .bf16) (hh : FVec Ideal S16x1024 .bf16)
    (w : FVec Ideal S1024x256 .bf16) (c : FVec Ideal S3x256 .f32) (b : FVec Ideal S1x256 .f32) (r : Fin 1024) (k : Fin 256) : EReal :=
  conv (fun r => ∑ x : Fin 1024, hn (ix2 r x) * w (ix2 x k))
    ((∑ x : Fin 1024, hh (ix2 7 x) * w (ix2 x k)) * (if (i 0).val % 8 = 0 then 0 else 1))
    ((∑ x : Fin 1024, hh (ix2 8 x) * w (ix2 x k)) * (if ((i 0).val + 1) % 8 = 0 then 0 else 1))
    (c (ix2 0 k)) (c (ix2 1 k)) (c (ix2 2 k)) (b (ix2 0 k)) r

/-- A row of the taps, as loaded. -/
theorem ld_row (c : FVec Ideal S3x256 .f32) (a : Fin 3) (inb) (k : Fin 256) :
    ldr c a.val inb (ix2 0 k) = c (ix2 a k) := by
  refine congrArg c ?_
  show (Rect.unit (s := S3x256) ![a.val, 0] ![1, 256] inb).emb (ix2 0 k) = ix2 a k
  blk_ext []

/-- A step of the accumulation, entry by entry: the accumulator plus the tile's gated products projected down. -/
theorem step_at (i : grid0.Coords) (hn : FVec Ideal S1024x1024 .bf16) (hh : FVec Ideal S16x1024 .bf16) (acc : FVec Ideal S1024x1024 .f32)
    (w4 w5 : FVec Ideal S1024x256 .bf16) (c6 c7 : FVec Ideal S3x256 .f32) (b8 b9 : FVec Ideal S1x256 .f32) (d10 : FVec Ideal S256x1024 .bf16)
    (r q : Fin 1024) :
    stepT i hn hh acc w4 w5 c6 c7 b8 b9 d10 (ix2 r q) = acc (ix2 r q)
      + ∑ k : Fin 256, Ideal.div (col i hn hh w4 c6 b8 r k) (1 + Ideal.exp (0 - col i hn hh w4 c6 b8 r k)) * col i hn hh w5 c7 b9 r k * d10 (ix2 k q) := by
  unfold stepT
  rw [pay1_at]
  refine congrArg (acc (ix2 r q) + ·) (Finset.sum_congr rfl fun k _ => ?_)
  rw [pay17_at, pay11_at, pay9_eq, pay10_eq]
  unfold col
  refine congrArg (· * d10 (ix2 k q)) ?_
  rw [← ld_row c6 0 inb_S3x256_S1x256_0_0 k, ← ld_row c6 1 inb_S3x256_S1x256_1_0 k, ← ld_row c6 2 inb_S3x256_S1x256_2_0 k,
    ← ld_row c7 0 inb_S3x256_S1x256_0_0 k, ← ld_row c7 1 inb_S3x256_S1x256_1_0 k, ← ld_row c7 2 inb_S3x256_S1x256_2_0 k]
  rfl

/-- The halo scratch after a tile's first step: rows 0–7 the norms of the block before, rows 8–15 those of the block after. -/
def halo (g : FVec Ideal S1x1024 .f32) (p n : FVec Ideal S8x1024 .f32) : FVec Ideal S16x1024 .bf16 :=
  View.canon (Val := Elt Ideal) (s := S16x1024) (e := .bf16)
    [⟨Rect.unit ![8, 0] ![8, 1024] inb_S16x1024_S8x1024_8_0, k0_pay7 (F := Ideal) (k0_pay3 g) (k0_pay6 n)⟩,
      ⟨Rect.unit ![0, 0] ![8, 1024] inb_S16x1024_S8x1024_0_0, k0_pay5 (F := Ideal) g p⟩]

/-- Row 7 of the halo is the norm of the last row before the tile. -/
theorem halo_7 (g : FVec Ideal S1x1024 .f32) (p n : FVec Ideal S8x1024 .f32) (j : Fin 1024) :
    halo g p n (ix2 7 j) = ConvFfn.norm (fun j => p (ix2 7 j)) (fun j => g (ix2 0 j)) j := by
  rw [← pay5_at]
  unfold halo
  rw [View.canon_cons_of_not_mem]
  · have e : (ix2 7 j : S16x1024.Idx) = (Rect.unit ![0, 0] ![8, 1024] inb_S16x1024_S8x1024_0_0 : Rect S16x1024).emb (ix2 7 j) := by blk_ext []
    rw [e]
    exact View.canon_cons_emb _ _ _ _
  · intro h
    rw [Rect.mem_set_unit] at h
    have h8 : 8 ≤ 7 := (h 0).1
    exact absurd h8 (by decide)

/-- Row 8 of the halo is the norm of the first row after the tile. -/
theorem halo_8 (g : FVec Ideal S1x1024 .f32) (p n : FVec Ideal S8x1024 .f32) (j : Fin 1024) :
    halo g p n (ix2 8 j) = ConvFfn.norm (fun j => n (ix2 0 j)) (fun j => g (ix2 0 j)) j := by
  rw [← pay7_at]
  unfold halo
  have e : (ix2 8 j : S16x1024.Idx) = (Rect.unit ![8, 0] ![8, 1024] inb_S16x1024_S8x1024_8_0 : Rect S16x1024).emb (ix2 0 j) := by blk_ext []
  rw [e]
  exact View.canon_cons_emb _ _ _ _

/-- At a row tile's first point the buffer of norms holds the tile's. -/
theorem hn_A (c : Dev nD) (t : Fin cfg0.N) (h0 : t.val % 11 = 0) (h1 : ¬t.val % 11 = 10) :
    (outsAt0 m c t.val t.isLt).2.1 = k0_pay4 (F := Ideal) (iblk m c 3 t) (iblk m c 0 t) := by
  rw [outsAt0_A m c t h0 h1]
  frame_out

/-- At a row tile's first point the buffer of halo norms holds the halo's. -/
theorem hh_A (c : Dev nD) (t : Fin cfg0.N) (h0 : t.val % 11 = 0) (h1 : ¬t.val % 11 = 10) :
    (outsAt0 m c t.val t.isLt).2.2.1 = halo (iblk m c 3 t) (iblk m c 1 t) (iblk m c 2 t) := by
  rw [outsAt0_A m c t h0 h1]
  frame_out

/-- At a row tile's first point the accumulator is one step from zero. -/
theorem acc_A (c : Dev nD) (t : Fin cfg0.N) (h0 : t.val % 11 = 0) (h1 : ¬t.val % 11 = 10) :
    (outsAt0 m c t.val t.isLt).2.2.2 = stepT (grid0.coords t) (k0_pay4 (F := Ideal) (iblk m c 3 t) (iblk m c 0 t)) (halo (iblk m c 3 t) (iblk m c 1 t) (iblk m c 2 t))
      (k0_pay8 (F := Ideal)) (iblk m c 4 t) (iblk m c 5 t) (iblk m c 6 t) (iblk m c 7 t) (iblk m c 8 t) (iblk m c 9 t) (iblk m c 10 t) := by
  have e : (View.whole cc0_scratch1).readCov (Val := Elt Ideal)
            [⟨Rect.unit ![8, 0] ![8, 1024] inb_S16x1024_S8x1024_8_0,
                k0_pay7 (k0_pay3 (iblk m c 3 t)) (k0_pay6 (iblk m c 2 t))⟩,
              ⟨Rect.unit ![0, 0] ![8, 1024] inb_S16x1024_S8x1024_0_0, k0_pay5 (iblk m c 3 t) (iblk m c 1 t)⟩]
            (Rect.unit ![0, 0] ![16, 1024] inb_S16x1024_S16x1024_0_0).toLoadRect = halo (iblk m c 3 t) (iblk m c 1 t) (iblk m c 2 t) := by
    rw [View.readCov_eq_canon']
    unfold halo
    funext j
    refine congrArg _ ?_
    obtain ⟨r, q, rfl⟩ : ∃ (r : Fin 16) (q : Fin 1024), j = ix2 r q := ⟨j 0, j 1, by blk_ext []⟩
    show (Rect.unit (s := S16x1024) ![0, 0] ![16, 1024] inb_S16x1024_S16x1024_0_0).emb (ix2 r q) = ix2 r q
    blk_ext []
  rw [outsAt0_A m c t h0 h1]
  frame_out
  rw [e]
  unfold stepT halo
  rfl

/-- At a middle point the buffer of norms is as the point before left it. -/
theorem hn_B (c : Dev nD) (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1 := by
  rw [outsAt0_B m c t h0 h1]
  rfl

/-- At a middle point the buffer of halo norms is as the point before left it. -/
theorem hh_B (c : Dev nD) (t : Fin cfg0.N) (h0 : ¬t.val % 11 = 0) (h1 : ¬t.val % 11 = 10) :
    (outsAt0 m c t.val t.isLt).2.2.1 = (outsAt0 m c (t.val - 1) (Nat.lt_of_le_of_lt (Nat.sub_le _ _) t.isLt)).2.2.1 := by
  rw [outsAt0_B m c t h0 h1]
  rfl

/-- At a middle point the accumulator is one step on. -/
theorem acc_B (c : Dev nD) (t : Fin cfg0.N) (h0 : ¬t.val % 11 = 0) (h1 : ¬t.val % 11 = 10) :
    (outsAt0 m c t.val t.isLt).2.2.2 = stepT (grid0.coords t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2
      (iblk m c 4 t) (iblk m c 5 t) (iblk m c 6 t) (iblk m c 7 t) (iblk m c 8 t) (iblk m c 9 t) (iblk m c 10 t) := by
  rw [outsAt0_B m c t h0 h1]
  frame_out
  rw [read_unread_whole, read_unread_whole, read_unread_whole]
  rfl

/-- At a row tile's last point the result's buffer holds the tile plus the accumulator, one step on. -/
theorem out_C (c : Dev nD) (t : Fin cfg0.N) (h0 : ¬t.val % 11 = 0) (h1 : t.val % 11 = 10) :
    (outsAt0 m c t.val t.isLt).1 = k0_pay2 (F := Ideal) (iblk m c 0 t) (stepT (grid0.coords t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2
      (iblk m c 4 t) (iblk m c 5 t) (iblk m c 6 t) (iblk m c 7 t) (iblk m c 8 t) (iblk m c 9 t) (iblk m c 10 t)) := by
  rw [outsAt0_C m c t h0 h1]
  frame_out
  rw [read_unread_whole, read_unread_whole, read_unread_whole]
  rfl

end Cert.FfnIdeal.Value

end
-- ==== Proof.FfnReference.lean ====
/-
  The reference feed-forward layer's result, read at one entry.
-/
module

public import proofs.«01_k».proof.Proof.FfnMath
public import proofs.«01_k».proof.Proof.Gen.FfnRefIdeal.Run
public import Idealize.ShloMosaic.Lib.Pointwise

@[expose] public section

set_option maxRecDepth 16384

noncomputable section

namespace Cert.FfnRefIdeal.Layer

open Cert.FfnRefIdeal Cert.FfnRefIdeal.Gen Idealize.ShloMosaic Idealize.ShloMosaic.TcCoe Idealize.SL.Sem

/-- The rows' norms. -/
def HN (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The up-projection. -/
def UP (h : FVec Ideal S4x8192x1024 .f32) (w : FVec Ideal S1024x5632 .f32) : FVec Ideal S4x8192x5632 .f32 :=
  Host.dotGeneral dot_S4x8192x1024_S1024x5632_S4x8192x5632_2_0_01_1_n_n none h w

/-- The projection with a row of zeros before and after each sequence. -/
def PAD (u : FVec Ideal S4x8192x5632 .f32) : FVec Ideal S4x8194x5632 .f32 :=
  pad S4x8194x5632 ![0, 1, 0] ![0, 1, 0] ![0, 0, 0] u (sitofp .f32 (constantI S_ 32 0#32)) pads_S4x8192x5632_S4x8194x5632_000_110_000 h_S_

/-- The convolution of the padded rows. -/
def CV (p : FVec Ideal S4x8194x5632 .f32) (w : FVec Ideal S3x5632 .f32) (b : FVec Ideal S5632 .f32) : FVec Ideal S4x8192x5632 .f32 :=
  addf (addf (addf (mulf (extractStridedSlice S4x8192x5632 ![0, 0, 0] p slices_S4x8194x5632_S4x8192x5632_0_0_0) (broadcastInDim S4x8192x5632 ![0, 1, 2] bcast_S1x1x5632_S4x8192x5632_0_1_2 (broadcastInDim S1x1x5632 ![2] bcast_S5632_S1x1x5632_2 (shapeCast _ (extractStridedSlice S1x5632 ![0, 0] w slices_S3x5632_S1x5632_0_0) shapeCasts_S1x5632_S5632)))) (mulf (extractStridedSlice S4x8192x5632 ![0, 1, 0] p slices_S4x8194x5632_S4x8192x5632_0_1_0) (broadcastInDim S4x8192x5632 ![0, 1, 2] bcast_S1x1x5632_S4x8192x5632_0_1_2 (broadcastInDim S1x1x5632 ![2] bcast_S5632_S1x1x5632_2 (shapeCast _ (extractStridedSlice S1x5632 ![1, 0] w slices_S3x5632_S1x5632_1_0) shapeCasts_S1x5632_S5632))))) (mulf (extractStridedSlice S4x8192x5632 ![0, 2, 0] p slices_S4x8194x5632_S4x8192x5632_0_2_0) (broadcastInDim S4x8192x5632 ![0, 1, 2] bcast_S1x1x5632_S4x8192x5632_0_1_2 (broadcastInDim S1x1x5632 ![2] bcast_S5632_S1x1x5632_2 (shapeCast _ (extractStridedSlice S1x5632 ![2, 0] w slices_S3x5632_S1x5632_2_0) shapeCasts_S1x5632_S5632))))) (broadcastInDim S4x8192x5632 ![0, 1, 2] bcast_S1x1x5632_S4x8192x5632_0_1_2 (broadcastInDim S1x1x5632 ![2] bcast_S5632_S1x1x5632_2 b))

/-- The gated products: each gate times its sigmoid, times its value column. -/
def ACT (c : FVec Ideal S4x8192x5632 .f32) : FVec Ideal S4x8192x2816 .f32 :=
  mulf (mulf (extractStridedSlice S4x8192x2816 ![0, 0, 0] c slices_S4x8192x5632_S4x8192x2816_0_0_0) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 0] c slices_S4x8192x5632_S4x8192x2816_0_0_0)))))) (extractStridedSlice S4x8192x2816 ![0, 0, 2816] c slices_S4x8192x5632_S4x8192x2816_0_0_2816)

/-- The rows plus the down-projection of the gated products, the sequences laid end to end. -/
def OUT (x : FVec Ideal S4x8192x1024 .f32) (a : FVec Ideal S4x8192x2816 .f32) (wd : FVec Ideal S2816x1024 .f32) : FVec Ideal S32768x1024 .f32 :=
  shapeCast _ (addf x (Host.dotGeneral dot_S4x8192x2816_S2816x1024_S4x8192x1024_2_0_01_1_n_n none a wd)) shapeCasts_S4x8192x1024_S32768x1024

/-- The reference's result as one term over its arguments. -/
def REF (x : FVec Ideal S4x8192x1024 .f32) (g : FVec Ideal S1024 .f32) (w : FVec Ideal S1024x5632 .f32) (cw : FVec Ideal S3x5632 .f32)
    (cb : FVec Ideal S5632 .f32) (wd : FVec Ideal S2816x1024 .f32) : FVec Ideal S32768x1024 .f32 :=
  OUT x (ACT (CV (PAD (UP (HN x g) w)) cw cb)) wd

/-- Row `R` of the sequences laid end to end. -/
def row (x : FVec Ideal S4x8192x1024 .f32) (R : Fin 32768) (j : Fin 1024) : EReal :=
  x (ix3 ⟨R.val / 8192, by omega⟩ ⟨R.val % 8192, by omega⟩ j)

/-- An entry of the rows' norms. -/
theorem HN_at (x : FVec Ideal S4x8192x1024 .f32) (g : FVec Ideal S1024 .f32) (b : Fin 4) (s : Fin 8192) (j : Fin 1024) :
    HN x g (ix3 b s j) = ConvFfn.norm (fun j => x (ix3 b s j)) (fun j => g (ix1 j)) j := by
  pointwise [HN, ConvFfn.norm]

/-- An entry of the up-projection. -/
theorem UP_at (h : FVec Ideal S4x8192x1024 .f32) (w : FVec Ideal S1024x5632 .f32) (b : Fin 4) (s : Fin 8192) (n : Fin 5632) :
    UP h w (ix3 b s n) = ∑ k : Fin 1024, h (ix3 b s k) * w (ix2 k n) := by
  pointwise [UP]

/-- An entry of the padded rows: zero in the added rows. -/
theorem PAD_at (u : FVec Ideal S4x8192x5632 .f32) (b : Fin 4) (s : Fin 8194) (n : Fin 5632) :
    PAD u (ix3 b s n) = if h : 1 ≤ s.val ∧ s.val ≤ 8192 then u (ix3 b ⟨s.val - 1, by omega⟩ n) else 0 := by
  pointwise [PAD]
  have z : (FloatOps.sitofp (F := Ideal) FTy.f32 0#32 : EReal) = 0 := by
    show ((((0#32 : BitVec 32).toInt : ℤ) : ℝ) : EReal) = 0
    simp
  by_cases h : 1 ≤ s.val ∧ s.val ≤ 8192
  · rw [dif_pos h, dif_pos ⟨h.1, by omega⟩]
  · rw [dif_neg h, dif_neg (by omega)]
    exact z

/-- An entry of the convolution. -/
theorem CV_at (p : FVec Ideal S4x8194x5632 .f32) (w : FVec Ideal S3x5632 .f32) (cb : FVec Ideal S5632 .f32) (b : Fin 4) (s : Fin 8192) (n : Fin 5632) :
    CV p w cb (ix3 b s n) = p (ix3 b ⟨s.val, by omega⟩ n) * w (ix2 0 n) + p (ix3 b ⟨1 + s.val, by omega⟩ n) * w (ix2 1 n)
      + p (ix3 b ⟨2 + s.val, by omega⟩ n) * w (ix2 2 n) + cb (ix1 n) := by
  pointwise [CV]

/-- An entry of the gated products. -/
theorem ACT_at (c : FVec Ideal S4x8192x5632 .f32) (b : Fin 4) (s : Fin 8192) (k : Fin 2816) :
    ACT c (ix3 b s k) = ConvFfn.silu (c (ix3 b s ⟨k.val, by omega⟩)) * c (ix3 b s ⟨2816 + k.val, by omega⟩) := by
  pointwise [ACT, ConvFfn.silu]

/-- An entry of the result, from the gated products. -/
theorem OUT_at (x : FVec Ideal S4x8192x1024 .f32) (a : FVec Ideal S4x8192x2816 .f32) (wd : FVec Ideal S2816x1024 .f32) (R : Fin 32768) (q : Fin 1024) :
    OUT x a wd (ix2 R q) = row x R q + ∑ k : Fin 2816, a (ix3 ⟨R.val / 8192, by omega⟩ ⟨R.val % 8192, by omega⟩ k) * wd (ix2 k q) := by
  pointwise [OUT, row]

/-- An entry of the reference's result: the row itself plus the projected gated products of its convolved up-projections. -/
theorem ref_at (x : FVec Ideal S4x8192x1024 .f32) (g : FVec Ideal S1024 .f32) (w : FVec Ideal S1024x5632 .f32) (cw : FVec Ideal S3x5632 .f32)
    (cb : FVec Ideal S5632 .f32) (wd : FVec Ideal S2816x1024 .f32) (R : Fin 32768) (q : Fin 1024) :
    REF x g w cw cb wd (ix2 R q) = ConvFfn.outAt (row x R q)
      (fun n => ConvFfn.cv (fun R => ConvFfn.up (row x) (fun j => g (ix1 j)) (fun k n => w (ix2 k n)) R n)
        (cw (ix2 0 n)) (cw (ix2 1 n)) (cw (ix2 2 n)) (cb (ix1 n)) R) (fun k => wd (ix2 k q)) := by
  have hu : ∀ (b : Fin 4) (s : Fin 8192) (R : Fin 32768) (n : Fin 5632), R.val = b.val * 8192 + s.val →
      UP (HN x g) w (ix3 b s n) = ConvFfn.up (row x) (fun j => g (ix1 j)) (fun k n => w (ix2 k n)) R n := by
    intro b s R n h
    rw [UP_at]
    have e : row x R = fun j => x (ix3 b s j) := by
      funext j
      unfold row
      exact congrArg₂ (fun b s => x (ix3 b s j)) (Fin.ext (by show R.val / 8192 = b.val; omega)) (Fin.ext (by show R.val % 8192 = s.val; omega))
    unfold ConvFfn.up
    refine Finset.sum_congr rfl fun k _ => ?_
    rw [HN_at, e]
  have hc : ∀ n : Fin 5632, CV (PAD (UP (HN x g) w)) cw cb (ix3 ⟨R.val / 8192, by omega⟩ ⟨R.val % 8192, by omega⟩ n)
      = ConvFfn.cv (fun R => ConvFfn.up (row x) (fun j => g (ix1 j)) (fun k n => w (ix2 k n)) R n)
        (cw (ix2 0 n)) (cw (ix2 1 n)) (cw (ix2 2 n)) (cb (ix1 n)) R := by
    intro n
    have hR := R.isLt
    rw [CV_at, PAD_at, PAD_at, PAD_at]
    unfold ConvFfn.cv
    refine congrArg₂ (· + ·) (congrArg₂ (· + ·) (congrArg₂ (· + ·) (congrArg (· * _) ?_) (congrArg (· * _) ?_)) (congrArg (· * _) ?_)) rfl
    · by_cases h : R.val % 8192 = 0
      · rw [if_pos h, dif_neg (by simp only; omega)]
      · rw [if_neg h, dif_pos (by simp only; omega)]
        exact hu _ _ _ _ (by simp only [ConvFfn.before]; omega)
    · rw [dif_pos (by simp only; omega)]
      exact hu _ _ _ _ (by simp only; omega)
    · by_cases h : R.val % 8192 = 8191
      · rw [if_pos h, dif_neg (by simp only; omega)]
      · rw [if_neg h, dif_pos (by simp only; omega)]
        exact hu _ _ _ _ (by simp only [ConvFfn.after]; omega)
  unfold REF ConvFfn.outAt
  rw [OUT_at]
  refine congrArg (row x R q + ·) (Finset.sum_congr rfl fun k _ => ?_)
  rw [ACT_at, hc, hc]

end Cert.FfnRefIdeal.Layer

end
-- ==== Proof.FfnBlocks.lean ====
/-
  The blocks the feed-forward kernel reads at a grid point, in terms of the layer's arguments.
-/
module

public import proofs.«01_k».proof.Proof.FfnValue
public import proofs.«01_k».proof.Proof.FfnReference
public import Idealize.ShloMosaic.Lib.Claim

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnRefIdeal.Layer (row)

variable (m : (ℓ : Loc nD τ sig) → Buf (Elt Ideal) ℓ)

/-- The blocks a grid point reads and writes: row tile `t / 11`, column tile `t % 11`. -/
theorem idx : ∀ t : Fin cfg0.N, win0_0.index t = ![t.val / 11, 0] ∧ win0_1.index t = ![t.val / 11 * 128 - 1, 0]
    ∧ win0_2.index t = ![min ((t.val / 11 + 1) * 128) 4095, 0] ∧ win0_3.index t = ![0, 0] ∧ win0_4.index t = ![0, t.val % 11]
    ∧ win0_5.index t = ![0, 11 + t.val % 11] ∧ win0_6.index t = ![0, t.val % 11] ∧ win0_7.index t = ![0, 11 + t.val % 11]
    ∧ win0_8.index t = ![0, t.val % 11] ∧ win0_9.index t = ![0, 11 + t.val % 11] ∧ win0_10.index t = ![t.val % 11, 0]
    ∧ win0_11.index t = ![t.val / 11, 0] :=
  (by decide +kernel : ∀ t : Fin grid0.N, _)

/-- The first grid coordinate of a point is its row tile. -/
theorem coord : ∀ t : Fin cfg0.N, (grid0.coords t 0).val = t.val / 11 :=
  (by decide +kernel : ∀ t : Fin grid0.N, _)

/-- The row tile. -/
theorem blk0 (c : Dev nD) (t : Fin cfg0.N) (r : Fin 1024) (j : Fin 1024) (h : t.val / 11 * 1024 + r.val < 32768) :
    iblk m c 0 t (ix2 r j) = row (m ((c : Thread nD τ).loc main_arg0)) ⟨t.val / 11 * 1024 + r.val, h⟩ j := by
  blk_simp [iblk, idx t]
  entry_read
  have ej : ((View.whole main_v0).slice (win0_0.rect t)).emb (ix2 r j) = ix2 ⟨t.val / 11 * 1024 + r.val, h⟩ j := by blk_ext [idx t]
  rw [ej]
  pointwise [row]

/-- The eight rows before the tile (of the first tile: the first eight). -/
theorem blk1 (c : Dev nD) (t : Fin cfg0.N) (r : Fin 8) (j : Fin 1024) (h : (t.val / 11 * 128 - 1) * 8 + r.val < 32768) :
    iblk m c 1 t (ix2 r j) = row (m ((c : Thread nD τ).loc main_arg0)) ⟨(t.val / 11 * 128 - 1) * 8 + r.val, h⟩ j := by
  blk_simp [iblk, idx t]
  entry_read
  have ej : ((View.whole main_v0).slice (win0_1.rect t)).emb (ix2 r j) = ix2 ⟨(t.val / 11 * 128 - 1) * 8 + r.val, h⟩ j := by blk_ext [idx t]
  rw [ej]
  pointwise [row]

/-- The eight rows after the tile (of the last tile: the last eight). -/
theorem blk2 (c : Dev nD) (t : Fin cfg0.N) (r : Fin 8) (j : Fin 1024) (h : min ((t.val / 11 + 1) * 128) 4095 * 8 + r.val < 32768) :
    iblk m c 2 t (ix2 r j) = row (m ((c : Thread nD τ).loc main_arg0)) ⟨min ((t.val / 11 + 1) * 128) 4095 * 8 + r.val, h⟩ j := by
  blk_simp [iblk, idx t]
  entry_read
  have ej : ((View.whole main_v0).slice (win0_2.rect t)).emb (ix2 r j) = ix2 ⟨min ((t.val / 11 + 1) * 128) 4095 * 8 + r.val, h⟩ j := by blk_ext [idx t]
  rw [ej]
  pointwise [row]

/-- The gain. -/
theorem blk3 (c : Dev nD) (t : Fin cfg0.N) (j : Fin 1024) :
    iblk m c 3 t (ix2 0 j) = m ((c : Thread nD τ).loc main_arg1) (ix1 j) := by
  blk_simp [iblk, idx t]
  entry_read
  have ej : ((View.whole main_v1).slice (win0_3.rect t)).emb (ix2 0 j) = ix2 0 j := by blk_ext [idx t]
  rw [ej]
  pointwise []

/-- The up-projection of the gate columns. -/
theorem blk4 (c : Dev nD) (t : Fin cfg0.N) (j : Fin 1024) (k : Fin 256) (h : t.val % 11 * 256 + k.val < 5632) :
    iblk m c 4 t (ix2 j k) = m ((c : Thread nD τ).loc main_arg2) (ix2 j ⟨t.val % 11 * 256 + k.val, h⟩) := by
  blk_simp [iblk, idx t]
  entry_read
  have ej : ((View.whole main_v2).slice (win0_4.rect t)).emb (ix2 j k) = ix2 j ⟨t.val % 11 * 256 + k.val, h⟩ := by blk_ext [idx t]
  rw [ej]
  pointwise []

/-- The up-projection of the value columns. -/
theorem blk5 (c : Dev nD) (t : Fin cfg0.N) (j : Fin 1024) (k : Fin 256) (h : (11 + t.val % 11) * 256 + k.val < 5632) :
    iblk m c 5 t (ix2 j k) = m ((c : Thread nD τ).loc main_arg2) (ix2 j ⟨(11 + t.val % 11) * 256 + k.val, h⟩) := by
  blk_simp [iblk, idx t]
  entry_read
  have ej : ((View.whole main_v2).slice (win0_5.rect t)).emb (ix2 j k) = ix2 j ⟨(11 + t.val % 11) * 256 + k.val, h⟩ := by blk_ext [idx t]
  rw [ej]
  pointwise []

/-- The taps of the gate columns. -/
theorem blk6 (c : Dev nD) (t : Fin cfg0.N) (a : Fin 3) (k : Fin 256) (h : t.val % 11 * 256 + k.val < 5632) :
    iblk m c 6 t (ix2 a k) = m ((c : Thread nD τ).loc main_arg3) (ix2 a ⟨t.val % 11 * 256 + k.val, h⟩) := by
  refine congrArg (m ((c : Thread nD τ).loc main_arg3)) (a₁ := ((View.whole main_arg3).slice (win0_6.rect t)).emb _) ?_
  blk_ext [idx t]

/-- The taps of the value columns. -/
theorem blk7 (c : Dev nD) (t : Fin cfg0.N) (a : Fin 3) (k : Fin 256) (h : (11 + t.val % 11) * 256 + k.val < 5632) :
    iblk m c 7 t (ix2 a k) = m ((c : Thread nD τ).loc main_arg3) (ix2 a ⟨(11 + t.val % 11) * 256 + k.val, h⟩) := by
  refine congrArg (m ((c : Thread nD τ).loc main_arg3)) (a₁ := ((View.whole main_arg3).slice (win0_7.rect t)).emb _) ?_
  blk_ext [idx t]

/-- The bias of the gate columns. -/
theorem blk8 (c : Dev nD) (t : Fin cfg0.N) (k : Fin 256) (h : t.val % 11 * 256 + k.val < 5632) :
    iblk m c 8 t (ix2 0 k) = m ((c : Thread nD τ).loc main_arg4) (ix1 ⟨t.val % 11 * 256 + k.val, h⟩) := by
  blk_simp [iblk, idx t]
  entry_read
  have ej : ((View.whole main_v3).slice (win0_8.rect t)).emb (ix2 0 k) = ix2 0 ⟨t.val % 11 * 256 + k.val, h⟩ := by blk_ext [idx t]
  rw [ej]
  pointwise []

/-- The bias of the value columns. -/
theorem blk9 (c : Dev nD) (t : Fin cfg0.N) (k : Fin 256) (h : (11 + t.val % 11) * 256 + k.val < 5632) :
    iblk m c 9 t (ix2 0 k) = m ((c : Thread nD τ).loc main_arg4) (ix1 ⟨(11 + t.val % 11) * 256 + k.val, h⟩) := by
  blk_simp [iblk, idx t]
  entry_read
  have ej : ((View.whole main_v3).slice (win0_9.rect t)).emb (ix2 0 k) = ix2 0 ⟨(11 + t.val % 11) * 256 + k.val, h⟩ := by blk_ext [idx t]
  rw [ej]
  pointwise []

/-- The down-projection of the tile's columns. -/
theorem blk10 (c : Dev nD) (t : Fin cfg0.N) (k : Fin 256) (q : Fin 1024) (h : t.val % 11 * 256 + k.val < 2816) :
    iblk m c 10 t (ix2 k q) = m ((c : Thread nD τ).loc main_arg5) (ix2 ⟨t.val % 11 * 256 + k.val, h⟩ q) := by
  blk_simp [iblk, idx t]
  entry_read
  have ej : ((View.whole main_v4).slice (win0_10.rect t)).emb (ix2 k q) = ix2 ⟨t.val % 11 * 256 + k.val, h⟩ q := by blk_ext [idx t]
  rw [ej]
  pointwise []

end Cert.FfnIdeal.Value

end
-- ==== Proof.FfnFinal.lean ====
/-
  The feed-forward kernel's result array is the reference's result.
-/
module

public import proofs.«01_k».proof.Proof.FfnBlocks

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnRefIdeal.Layer (row)

/-- A tile's column of the convolution is the layer's, at the tile's row `T * 1024 + r`: the halo rows are the rows
    before and after the tile, and the flags put zero for them at a sequence's ends. -/
theorem col_eq (X : Fin 32768 → Fin 1024 → EReal) (g : Fin 1024 → EReal) (W : Fin 1024 → Fin 5632 → EReal)
    (i : grid0.Coords) (hn : FVec Ideal S1024x1024 .bf16) (hh : FVec Ideal S16x1024 .bf16)
    (w : FVec Ideal S1024x256 .bf16) (c : FVec Ideal S3x256 .f32) (b : FVec Ideal S1x256 .f32) (T : ℕ) (hT : T < 32)
    (r : Fin 1024) (k : Fin 256) (n : Fin 5632) (hi : (i 0).val = T)
    (h0 : ∀ (r j : Fin 1024), hn (ix2 r j) = ConvFfn.norm (X ⟨T * 1024 + r.val, by omega⟩) g j)
    (h7 : ∀ j : Fin 1024, hh (ix2 7 j) = ConvFfn.norm (X ⟨(T * 128 - 1) * 8 + 7, by omega⟩) g j)
    (h8 : ∀ j : Fin 1024, hh (ix2 8 j) = ConvFfn.norm (X ⟨min ((T + 1) * 128) 4095 * 8, by omega⟩) g j)
    (hw : ∀ x : Fin 1024, w (ix2 x k) = W x n) :
    col i hn hh w c b r k = ConvFfn.cv (fun R => ConvFfn.up X g W R n) (c (ix2 0 k)) (c (ix2 1 k)) (c (ix2 2 k)) (b (ix2 0 k))
      ⟨T * 1024 + r.val, by omega⟩ := by
  have hr := r.isLt
  have e0 : ∀ (r : Fin 1024) (R : Fin 32768), R.val = T * 1024 + r.val → ∑ x : Fin 1024, hn (ix2 r x) * w (ix2 x k) = ConvFfn.up X g W R n := by
    intro r R h
    exact Finset.sum_congr rfl fun x _ => by
      rw [h0, hw]
      exact congrArg (fun R => ConvFfn.norm (X R) g x * W x n) (Fin.ext h.symm)
  have e7 : ∀ R : Fin 32768, R.val = (T * 128 - 1) * 8 + 7 → ∑ x : Fin 1024, hh (ix2 7 x) * w (ix2 x k) = ConvFfn.up X g W R n := by
    intro R h
    exact Finset.sum_congr rfl fun x _ => by
      rw [h7, hw]
      exact congrArg (fun R => ConvFfn.norm (X R) g x * W x n) (Fin.ext h.symm)
  have e8 : ∀ R : Fin 32768, R.val = min ((T + 1) * 128) 4095 * 8 → ∑ x : Fin 1024, hh (ix2 8 x) * w (ix2 x k) = ConvFfn.up X g W R n := by
    intro R h
    exact Finset.sum_congr rfl fun x _ => by
      rw [h8, hw]
      exact congrArg (fun R => ConvFfn.norm (X R) g x * W x n) (Fin.ext h.symm)
  unfold col conv ConvFfn.cv
  rw [hi]
  refine congrArg₂ (· + ·) (congrArg₂ (· + ·) (congrArg₂ (· + ·) (congrArg (· * _) ?_) (congrArg (· * _) ?_)) (congrArg (· * _) ?_)) rfl
  · by_cases hz : r.val = 0
    · rw [if_pos hz]
      by_cases hT8 : T % 8 = 0
      · rw [if_pos hT8, if_pos (by simp only; omega)]
        exact mul_zero _
      · rw [if_neg hT8, if_neg (by simp only; omega)]
        exact (mul_one _).trans (e7 _ (by simp only [ConvFfn.before]; omega))
    · rw [if_neg hz, if_neg (by simp only; omega)]
      exact e0 _ _ (by simp only [ConvFfn.before]; omega)
  · exact e0 _ _ rfl
  · by_cases hz : r.val = 1023
    · rw [if_pos hz]
      by_cases hT8 : (T + 1) % 8 = 0
      · rw [if_pos hT8, if_pos (by simp only; omega)]
        exact mul_zero _
      · rw [if_neg hT8, if_neg (by simp only; omega)]
        exact (mul_one _).trans (e8 _ (by simp only [ConvFfn.after]; omega))
    · rw [if_neg hz, if_neg (by simp only; omega)]
      exact e0 _ _ (by simp only [ConvFfn.after]; omega)

variable (m : (ℓ : Loc nD τ sig) → Buf (Elt Ideal) ℓ)

/-- The layer's rows, gain and up-projection, from the argument arrays. -/
abbrev X (c : Dev nD) : Fin 32768 → Fin 1024 → EReal := row (m ((c : Thread nD τ).loc main_arg0))
/-- The gain. -/
abbrev G (c : Dev nD) (j : Fin 1024) : EReal := m ((c : Thread nD τ).loc main_arg1) (ix1 j)
/-- The up-projection's weights. -/
abbrev W (c : Dev nD) (k : Fin 1024) (n : Fin 5632) : EReal := m ((c : Thread nD τ).loc main_arg2) (ix2 k n)

/-- The convolved up-projection of row `R` in column `n`. -/
def C (c : Dev nD) (R : Fin 32768) (n : Fin 5632) : EReal :=
  ConvFfn.cv (fun R => ConvFfn.up (X m c) (G m c) (W m c) R n) (m ((c : Thread nD τ).loc main_arg3) (ix2 0 n)) (m ((c : Thread nD τ).loc main_arg3) (ix2 1 n))
    (m ((c : Thread nD τ).loc main_arg3) (ix2 2 n)) (m ((c : Thread nD τ).loc main_arg4) (ix1 n)) R

/-- The term of column `n` in entry `q` of row `R`'s down-projection. -/
def term (c : Dev nD) (R : Fin 32768) (q : Fin 1024) (n : ℕ) : EReal :=
  if h : n < 2816 then ConvFfn.silu (C m c R ⟨n, by omega⟩) * C m c R ⟨2816 + n, by omega⟩ * m ((c : Thread nD τ).loc main_arg5) (ix2 ⟨n, h⟩ q) else 0

/-- What the norm scratches hold at point `n`: the norms of the tile's rows and of its two halo rows. -/
def Holds (c : Dev nD) (T : ℕ) (hT : T < 32) (hn : FVec Ideal S1024x1024 .bf16) (hh : FVec Ideal S16x1024 .bf16) : Prop :=
  (∀ (r j : Fin 1024), hn (ix2 r j) = ConvFfn.norm (X m c ⟨T * 1024 + r.val, by omega⟩) (G m c) j)
  ∧ (∀ j : Fin 1024, hh (ix2 7 j) = ConvFfn.norm (X m c ⟨(T * 128 - 1) * 8 + 7, by omega⟩) (G m c) j)
  ∧ (∀ j : Fin 1024, hh (ix2 8 j) = ConvFfn.norm (X m c ⟨min ((T + 1) * 128) 4095 * 8, by omega⟩) (G m c) j)

/-- The grid has 352 points. -/
theorem lt_N (t : Fin cfg0.N) : t.val < 352 := lt_of_lt_of_eq t.isLt N_0

/-- A tile's first point puts the norms there. -/
theorem holds_A (c : Dev nD) (t : Fin cfg0.N) :
    Holds m c (t.val / 11) (by have := lt_N t; omega) (k0_pay4 (F := Ideal) (iblk m c 3 t) (iblk m c 0 t)) (halo (iblk m c 3 t) (iblk m c 1 t) (iblk m c 2 t)) := by
  have hN := lt_N t
  refine ⟨fun r j => ?_, fun j => ?_, fun j => ?_⟩
  · rw [pay4_at]
    exact congrArg₂ (fun x g => ConvFfn.norm x g j) (funext fun j => blk0 m c t r j (by omega)) (funext fun j => blk3 m c t j)
  · rw [halo_7]
    exact congrArg₂ (fun x g => ConvFfn.norm x g j) (funext fun j => blk1 m c t 7 j (by simp; omega)) (funext fun j => blk3 m c t j)
  · rw [halo_8]
    exact congrArg₂ (fun x g => ConvFfn.norm x g j) (funext fun j => blk2 m c t 0 j (by simp; omega)) (funext fun j => blk3 m c t j)

/-- One step adds its column tile's terms to the accumulator. -/
theorem step_eq (c : Dev nD) (t : Fin cfg0.N) (hn : FVec Ideal S1024x1024 .bf16) (hh : FVec Ideal S16x1024 .bf16) (acc : FVec Ideal S1024x1024 .f32)
    (T s : ℕ) (hT : T < 32) (eT : t.val / 11 = T) (es : t.val % 11 = s) (H : Holds m c T hT hn hh) (r q : Fin 1024) :
    stepT (grid0.coords t) hn hh acc (iblk m c 4 t) (iblk m c 5 t) (iblk m c 6 t) (iblk m c 7 t) (iblk m c 8 t) (iblk m c 9 t) (iblk m c 10 t) (ix2 r q)
      = acc (ix2 r q) + ∑ k : Fin 256, term m c ⟨T * 1024 + r.val, by omega⟩ q (s * 256 + k.val) := by
  have hs : s < 11 := by omega
  rw [step_at]
  refine congrArg (acc (ix2 r q) + ·) (Finset.sum_congr rfl fun k _ => ?_)
  have hk := k.isLt
  subst es
  have eg : col (grid0.coords t) hn hh (iblk m c 4 t) (iblk m c 6 t) (iblk m c 8 t) r k = C m c ⟨T * 1024 + r.val, by omega⟩ ⟨t.val % 11 * 256 + k.val, by omega⟩ := by
    rw [col_eq (X m c) (G m c) (W m c) _ _ _ _ _ _ T hT r k ⟨t.val % 11 * 256 + k.val, by omega⟩ ((coord t).trans eT) H.1 H.2.1 H.2.2 (fun x => blk4 m c t x k (by omega)),
      blk6 m c t 0 k (by omega), blk6 m c t 1 k (by omega), blk6 m c t 2 k (by omega), blk8 m c t k (by omega)]
    rfl
  have ev : col (grid0.coords t) hn hh (iblk m c 5 t) (iblk m c 7 t) (iblk m c 9 t) r k = C m c ⟨T * 1024 + r.val, by omega⟩ ⟨2816 + (t.val % 11 * 256 + k.val), by omega⟩ := by
    have e : (⟨(11 + t.val % 11) * 256 + k.val, by omega⟩ : Fin 5632) = ⟨2816 + (t.val % 11 * 256 + k.val), by omega⟩ := Fin.ext (by simp only; omega)
    rw [col_eq (X m c) (G m c) (W m c) _ _ _ _ _ _ T hT r k ⟨(11 + t.val % 11) * 256 + k.val, by omega⟩ ((coord t).trans eT) H.1 H.2.1 H.2.2 (fun x => blk5 m c t x k (by omega)),
      blk7 m c t 0 k (by omega), blk7 m c t 1 k (by omega), blk7 m c t 2 k (by omega), blk9 m c t k (by omega), e]
    rfl
  rw [eg, ev, ConvFfn.silu_eq, blk10 m c t k q (by omega)]
  unfold term
  rw [dif_pos (by omega)]

/-- THE INVARIANT: up to a tile's last point the scratches hold the norms, and the accumulator the terms of the column
    tiles done so far. -/
theorem invariant (c : Dev nD) : ∀ (n : ℕ) (h : n < cfg0.N) (h10 : ¬ n % 11 = 10) (hT : n / 11 < 32),
    Holds m c (n / 11) hT (outsAt0 m c n h).2.1 (outsAt0 m c n h).2.2.1
    ∧ ∀ r q : Fin 1024, (outsAt0 m c n h).2.2.2 (ix2 r q)
      = ∑ s ∈ Finset.range (n % 11 + 1), ∑ k : Fin 256, term m c ⟨n / 11 * 1024 + r.val, by omega⟩ q (s * 256 + k.val) := by
  intro n
  induction n with
  | zero =>
    intro h h10 hT
    have hA := hn_A m c ⟨0, h⟩ rfl h10
    have hB := hh_A m c ⟨0, h⟩ rfl h10
    have hC := acc_A m c ⟨0, h⟩ rfl h10
    simp only at hA hB hC
    rw [hA, hB, hC]
    refine ⟨holds_A m c ⟨0, h⟩, fun r q => ?_⟩
    rw [step_eq m c ⟨0, h⟩ _ _ _ (0 / 11) (0 % 11) hT rfl rfl (holds_A m c ⟨0, h⟩), pay8_at, Finset.sum_range_succ]
    simp
  | succ n ih =>
    intro h h10 hT
    by_cases h0 : (n + 1) % 11 = 0
    · have hA := hn_A m c ⟨n + 1, h⟩ h0 h10
      have hB := hh_A m c ⟨n + 1, h⟩ h0 h10
      have hC := acc_A m c ⟨n + 1, h⟩ h0 h10
      simp only at hA hB hC
      rw [hA, hB, hC]
      refine ⟨holds_A m c ⟨n + 1, h⟩, fun r q => ?_⟩
      rw [step_eq m c ⟨n + 1, h⟩ _ _ _ ((n + 1) / 11) ((n + 1) % 11) hT rfl rfl (holds_A m c ⟨n + 1, h⟩), pay8_at, Finset.sum_range_succ, h0]
      simp
    · have hA := hn_B m c ⟨n + 1, h⟩ h0 h10
      have hB := hh_B m c ⟨n + 1, h⟩ h0 h10
      have hC := acc_B m c ⟨n + 1, h⟩ h0 h10
      simp only [Nat.add_sub_cancel] at hA hB hC
      have eT : n / 11 = (n + 1) / 11 := by omega
      have es : (n + 1) % 11 = n % 11 + 1 := by omega
      obtain ⟨i1, i2⟩ := ih (by omega) (by omega) (by omega)
      have i1' : Holds m c ((n + 1) / 11) hT (outsAt0 m c n (by omega)).2.1 (outsAt0 m c n (by omega)).2.2.1 := by
        simp only [← eT]; exact i1
      rw [hA, hB, hC]
      refine ⟨i1', fun r q => ?_⟩
      rw [step_eq m c ⟨n + 1, h⟩ _ _ _ ((n + 1) / 11) ((n + 1) % 11) hT rfl rfl i1', i2, Finset.sum_range_succ _ ((n + 1) % 11), es]
      simp only [eT]

/-- THE RESULT ARRAY: the array the kernel leaves is the reference's result. -/
theorem final (c : Dev nD) :
    (dats m 0 c).arrAt 11 (cfgs 0).N
      = Cert.FfnRefIdeal.Layer.REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  have hN := lt_N t
  have h10 : t.val % 11 = 10 := (flush0_11 t).mp hf
  obtain ⟨r, q, rfl⟩ : ∃ (r q : Fin 1024), y = ix2 r q := ⟨y 0, y 1, by blk_ext []⟩
  have hr := r.isLt
  have ej : ((View.whole main_v5).slice (win0_11.rect t)).emb (ix2 r q) = ix2 ⟨t.val / 11 * 1024 + r.val, by omega⟩ q := by
    blk_ext [idx t]
  rw [ej, after0_11, out_C m c t (by omega) h10]
  obtain ⟨i1, i2⟩ := invariant m c (t.val - 1) (by have := t.isLt; omega) (by omega) (by omega)
  have eT : (t.val - 1) / 11 = t.val / 11 := by omega
  have es : (t.val - 1) % 11 + 1 = 10 := by omega
  have i1' : Holds m c (t.val / 11) (by omega) (outsAt0 m c (t.val - 1) (by have := t.isLt; omega)).2.1 (outsAt0 m c (t.val - 1) (by have := t.isLt; omega)).2.2.1 := by
    simp only [← eT]; exact i1
  rw [pay2_at, step_eq m c t _ _ _ (t.val / 11) (t.val % 11) (by omega) rfl rfl i1', i2, h10, es]
  simp only [eT]
  rw [← Finset.sum_range_succ (fun s => ∑ k : Fin 256, term m c ⟨t.val / 11 * 1024 + r.val, by omega⟩ q (s * 256 + k.val)) 10]
  refine Eq.trans ?_ (Cert.FfnRefIdeal.Layer.ref_at _ _ _ _ _ _ ⟨t.val / 11 * 1024 + r.val, by omega⟩ q).symm
  unfold ConvFfn.outAt
  rw [blk0 m c t r q (by omega), Fin.sum_univ_tiles 11 256 rfl, Finset.sum_range]
  refine congrArg₂ (· + ·) rfl (Finset.sum_congr rfl fun s _ => Finset.sum_congr rfl fun k _ => ?_)
  have hs := s.isLt
  have hk := k.isLt
  unfold term
  rw [dif_pos (by omega)]
  rfl

end Cert.FfnIdeal.Value

end
-- ==== Proof.FfnClaims.lean ====
/- The claims about the feed-forward layer: its frames, and its value claim assembled from the kernel's final array
   (`FfnFinal`) and the reference's composed term. -/
module

public import proofs.«01_k».proof.Defs
public import proofs.«01_k».proof.Proof.FfnFinal
public import proofs.«01_k».proof.Proof.Gen.Ffn.Frame
public import proofs.«01_k».proof.Proof.Gen.FfnIdeal.Frame
public import proofs.«01_k».proof.Proof.Gen.FfnRefIdeal.Run
public import Idealize.ShloMosaic.Lib.Claim
public import Idealize.ShloMosaic.Lib.Quiescent

@[expose] public section

set_option maxRecDepth 16384

noncomputable section

namespace Cert.Proof

open Idealize.ShloMosaic Idealize.SL.Sem Cert.Ffn

/-- The feed-forward kernel, as written, leaves its arguments as they were and every semaphore at zero. -/
theorem frame_Ffn : Cert.quiescent_Ffn := fun m ρ _ => Cert.Ffn.Gen.frame m ρ

/-- The same of the kernel read at the extended reals. -/
theorem frame_FfnIdeal : Cert.quiescent_FfnIdeal := fun m ρ _ => Cert.FfnIdeal.Gen.frame m ρ

set_option maxHeartbeats 3200000 in
/-- The reference leaves its arguments as they were and every semaphore at zero. -/
theorem frame_FfnRefIdeal : Cert.quiescent_FfnRefIdeal := by
  intro m g _
  hlo_run
  · exact fun _ => ⟨trivial, trivial, trivial, trivial, trivial, trivial⟩
  · exact sem_eq_zero_of_no_sems (by decide) _

/-- The kernel's result is the reference's, entry by entry. -/
theorem algebraic_Ffn : Cert.algebraic_FfnIdeal_FfnRefIdeal := by
  pair_intro
  · run_from Cert.FfnIdeal.Gen.run_main m g
  · run_from Cert.FfnRefIdeal.Value.run m' g'
    refine (show Cert.FfnRefIdeal.Value.res_main_v44 m' c
      = Cert.FfnRefIdeal.Layer.REF (m' ((c.tc : Thread _ _).loc Cert.FfnRefIdeal.main_arg0)) (m' ((c.tc : Thread _ _).loc Cert.FfnRefIdeal.main_arg1))
          (m' ((c.tc : Thread _ _).loc Cert.FfnRefIdeal.main_arg2)) (m' ((c.tc : Thread _ _).loc Cert.FfnRefIdeal.main_arg3))
          (m' ((c.tc : Thread _ _).loc Cert.FfnRefIdeal.main_arg4)) (m' ((c.tc : Thread _ _).loc Cert.FfnRefIdeal.main_arg5)) from rfl).trans ?_
    simp only [hagree c]
    exact (Cert.FfnIdeal.Value.final m c).symm

end Cert.Proof

end
-- ==== Proof.MemKvReference.lean ====
/-
  The memory's keys and values as the reference computes them, entry by entry.
-/
module

public import proofs.«01_k».proof.Proof.FfnMath
public import proofs.«01_k».proof.Proof.Gen.MemKvRefIdeal
public import Idealize.ShloMosaic.Lib.Pointwise
public import Idealize.ShloMosaic.Lib.Pipeline.ValueKit

@[expose] public section

set_option maxRecDepth 16384

noncomputable section

namespace MemoryKv

open Idealize.ShloMosaic

/-- An entry of the root-mean-square norm of one head's 128 entries `x` with gain `g`. -/
def headNorm (x g : Fin 128 → EReal) (j : Fin 128) : EReal :=
  x j * Ideal.rsqrt (Ideal.div (∑ k : Fin 128, x k * x k) (Ideal.ofBits .f32 0x43000000#32) + Ideal.ofBits .f32 0x358637BD#32) * g j

/-- An entry of the projection of a memory row: the row's norm with gain `g`, times column `w` of the weights. -/
def proj (x g w : Fin 1024 → EReal) : EReal := ∑ k : Fin 1024, ConvFfn.norm x g k * w k

/-- The first column of the head that column `c` of the keys belongs to. -/
theorem headCol_lt (c : Fin 512) (d : Fin 128) : c.val / 128 * 128 + d.val < 1024 := by omega

/-- A key: column `c` of a projected row, normed among the columns of its head. -/
def key (kv : Fin 1024 → EReal) (g : Fin 128 → EReal) (c : Fin 512) : EReal :=
  headNorm (fun d => kv ⟨c.val / 128 * 128 + d.val, headCol_lt c d⟩) g ⟨c.val % 128, Nat.mod_lt _ (by omega)⟩

end MemoryKv

namespace Cert.MemKvRefIdeal.Layer

open Cert.MemKvRefIdeal Cert.MemKvRefIdeal.Gen Idealize.ShloMosaic Idealize.ShloMosaic.TcCoe Idealize.SL.Sem

/-- The rows' norms, projected. -/
def KV (x : FVec Ideal S4x256x1024 .f32) (g : FVec Ideal S1024 .f32) (w : FVec Ideal S1024x1024 .f32) : FVec Ideal S4x256x1024 .f32 :=
  Host.dotGeneral dot_S4x256x1024_S1024x1024_S4x256x1024_2_0_01_1_n_n none (mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 g))) w

/-- The first half of the projection, by heads. -/
def HEADS (kv : FVec Ideal S4x256x1024 .f32) : FVec Ideal S4x256x4x128 .f32 :=
  shapeCast _ (extractStridedSlice S4x256x512 ![0, 0, 0] kv slices_S4x256x1024_S4x256x512_0_0_0) shapeCasts_S4x256x512_S4x256x4x128

/-- The heads' norms. -/
def KN (h : FVec Ideal S4x256x4x128 .f32) (g : FVec Ideal S128 .f32) : FVec Ideal S4x256x4x128 .f32 :=
  mulf (mulf h (broadcastInDim S4x256x4x128 ![0, 1, 2, 3] bcast_S4x256x4x1_S4x256x4x128_0_1_2_3 (Host.rsqrt (addf (Host.divf (broadcastInDim S4x256x4x1 ![0, 1, 2] bcast_S4x256x4_S4x256x4x1_0_1_2 (Host.reduceAdd (mulf h h) (constant S_ .f32 0x00000000#32) reducesTo_S4x256x4x128_S4x256x4_d3 h_S_)) (broadcastInDim S4x256x4x1 ![] bcast_S_S4x256x4x1 (constant S_ .f32 0x43000000#32))) (broadcastInDim S4x256x4x1 ![] bcast_S_S4x256x4x1 (constant S_ .f32 0x358637BD#32)))))) (broadcastInDim S4x256x4x128 ![0, 1, 2, 3] bcast_S1x1x1x128_S4x256x4x128_0_1_2_3 (broadcastInDim S1x1x1x128 ![3] bcast_S128_S1x1x1x128_3 g))

/-- The keys as one term over the reference's arguments. -/
def KEYS (x : FVec Ideal S4x256x1024 .f32) (g : FVec Ideal S1024 .f32) (w : FVec Ideal S1024x1024 .f32) (gk : FVec Ideal S128 .f32) : FVec Ideal S4x256x512 .bf16 :=
  truncf .bf16 (shapeCast _ (KN (HEADS (KV x g w)) gk) shapeCasts_S4x256x4x128_S4x256x512) bitsLt_bf16_f32

/-- The values as one term over the reference's arguments. -/
def VALUES (x : FVec Ideal S4x256x1024 .f32) (g : FVec Ideal S1024 .f32) (w : FVec Ideal S1024x1024 .f32) : FVec Ideal S4x256x512 .bf16 :=
  truncf .bf16 (extractStridedSlice S4x256x512 ![0, 0, 512] (KV x g w) slices_S4x256x1024_S4x256x512_0_0_512) bitsLt_bf16_f32

/-- An entry of the projection. -/
theorem KV_at (x : FVec Ideal S4x256x1024 .f32) (g : FVec Ideal S1024 .f32) (w : FVec Ideal S1024x1024 .f32) (b : Fin 4) (r : Fin 256) (j : Fin 1024) :
    KV x g w (ix3 b r j) = MemoryKv.proj (fun k => x (ix3 b r k)) (fun k => g (ix1 k)) (fun k => w (ix2 k j)) := by
  pointwise [KV, MemoryKv.proj, ConvFfn.norm]

/-- An entry of a head is the projection's entry in the head's columns. -/
theorem HEADS_at (kv : FVec Ideal S4x256x1024 .f32) (b : Fin 4) (r : Fin 256) (h : Fin 4) (d : Fin 128) :
    HEADS kv (ix4 b r h d) = kv (ix3 b r ⟨h.val * 128 + d.val, by omega⟩) := by
  pointwise [HEADS]

/-- An entry of a head's norm. -/
theorem KN_at (k : FVec Ideal S4x256x4x128 .f32) (g : FVec Ideal S128 .f32) (b : Fin 4) (r : Fin 256) (h : Fin 4) (d : Fin 128) :
    KN k g (ix4 b r h d) = MemoryKv.headNorm (fun d => k (ix4 b r h d)) (fun d => g (ix1 d)) d := by
  pointwise [KN, MemoryKv.headNorm]

/-- A key. -/
theorem keys_at (x : FVec Ideal S4x256x1024 .f32) (g : FVec Ideal S1024 .f32) (w : FVec Ideal S1024x1024 .f32) (gk : FVec Ideal S128 .f32)
    (b : Fin 4) (r : Fin 256) (c : Fin 512) :
    KEYS x g w gk (ix3 b r c)
      = MemoryKv.key (fun j => MemoryKv.proj (fun k => x (ix3 b r k)) (fun k => g (ix1 k)) (fun k => w (ix2 k j))) (fun d => gk (ix1 d)) c := by
  have e : KEYS x g w gk (ix3 b r c) = KN (HEADS (KV x g w)) gk (ix4 b r ⟨c.val / 128, by omega⟩ ⟨c.val % 128, Nat.mod_lt _ (by omega)⟩) := by
    pointwise [KEYS]
  rw [e, KN_at]
  simp only [HEADS_at, KV_at]
  rfl

/-- A value. -/
theorem values_at (x : FVec Ideal S4x256x1024 .f32) (g : FVec Ideal S1024 .f32) (w : FVec Ideal S1024x1024 .f32)
    (b : Fin 4) (r : Fin 256) (c : Fin 512) :
    VALUES x g w (ix3 b r c)
      = MemoryKv.proj (fun k => x (ix3 b r k)) (fun k => g (ix1 k)) (fun k => w (ix2 k ⟨512 + c.val, by omega⟩)) := by
  have e : VALUES x g w (ix3 b r c) = KV x g w (ix3 b r ⟨512 + c.val, by omega⟩) := by
    pointwise [VALUES]
  rw [e, KV_at]

end Cert.MemKvRefIdeal.Layer

end
-- ==== Proof.MemKvFinal.lean ====
/-
  The memory kernel's two arrays are the reference's keys and values.
-/
module

public import proofs.«01_k».proof.Proof.MemKvReference
public import proofs.«01_k».proof.Proof.Gen.MemKvIdeal.Frame
public import Idealize.ShloMosaic.Lib.Claim

@[expose] public section

set_option maxRecDepth 16384

noncomputable section

namespace Cert.MemKvIdeal.Value

open Cert.MemKvIdeal Cert.MemKvIdeal.Gen Idealize.ShloMosaic Idealize.ShloMosaic.TcCoe Idealize.SL.Sem
open Idealize.ShloMosaic.Pipeline (Dat)
open MemoryKv (headNorm proj key)

/-- An entry of the block's projection. -/
theorem pay3_at (x : FVec Ideal S1x256x1024 .f32) (g : FVec Ideal S1x1024 .f32) (w : FVec Ideal S1024x1024 .bf16) (r : Fin 256) (j : Fin 1024) :
    k0_pay3 (F := Ideal) x g w (ix2 r j) = proj (fun k => x (ix3 0 r k)) (fun k => g (ix2 0 k)) (fun k => w (ix2 k j)) := by
  pointwise [k0_pay3, proj, ConvFfn.norm]

/-- The second half of the projection, as stored. -/
theorem pay2_at (v : FVec Ideal S256x1024 .f32) (a : Fin 1) (r : Fin 256) (j : Fin 512) :
    k0_pay2 (F := Ideal) v (ix3 a r j) = v (ix2 r ⟨512 + j.val, by omega⟩) := by
  pointwise [k0_pay2]

/-- The first head's keys, as stored. -/
theorem pay5_at (x : FVec Ideal S1x256x1024 .f32) (g : FVec Ideal S1x1024 .f32) (w : FVec Ideal S1024x1024 .bf16) (gk : FVec Ideal S1x128 .f32)
    (a : Fin 1) (r : Fin 256) (d : Fin 128) :
    k0_pay5 (F := Ideal) x g w gk (ix3 a r d)
      = headNorm (fun d => k0_pay3 (F := Ideal) x g w (ix2 r ⟨d.val, by omega⟩)) (fun d => gk (ix2 0 d)) d := by
  unfold k0_pay5
  generalize k0_pay3 (F := Ideal) x g w = v
  pointwise [k0_pay4, headNorm]

/-- The second head's keys, as stored. -/
theorem pay6_at (v : FVec Ideal S256x1024 .f32) (gk : FVec Ideal S1x128 .f32) (a : Fin 1) (r : Fin 256) (d : Fin 128) :
    k0_pay6 (F := Ideal) v gk (ix3 a r d) = headNorm (fun d => v (ix2 r ⟨128 + d.val, by omega⟩)) (fun d => gk (ix2 0 d)) d := by
  pointwise [k0_pay6, headNorm]

/-- The third head's keys, as stored. -/
theorem pay7_at (v : FVec Ideal S256x1024 .f32) (gk : FVec Ideal S1x128 .f32) (a : Fin 1) (r : Fin 256) (d : Fin 128) :
    k0_pay7 (F := Ideal) v gk (ix3 a r d) = headNorm (fun d => v (ix2 r ⟨256 + d.val, by omega⟩)) (fun d => gk (ix2 0 d)) d := by
  pointwise [k0_pay7, headNorm]

/-- The fourth head's keys, as stored. -/
theorem pay1_at (v : FVec Ideal S256x1024 .f32) (gk : FVec Ideal S1x128 .f32) (a : Fin 1) (r : Fin 256) (d : Fin 128) :
    k0_pay1 (F := Ideal) gk (k0_pay8 v) (k0_pay9 v) (ix3 a r d) = headNorm (fun d => v (ix2 r ⟨384 + d.val, by omega⟩)) (fun d => gk (ix2 0 d)) d := by
  pointwise [k0_pay1, k0_pay8, k0_pay9, headNorm]

/-- The gain, as loaded. -/
theorem pay4_eq (g : FVec Ideal S1x128 .f32) (d : Fin 128) : k0_pay4 (F := Ideal) g (ix2 0 d) = g (ix2 0 d) := by
  pointwise [k0_pay4]

/-- A block of keys: each column normed among those of its head. -/
def keyBlock (x : FVec Ideal S1x256x1024 .f32) (g : FVec Ideal S1x1024 .f32) (w : FVec Ideal S1024x1024 .bf16) (gk : FVec Ideal S1x128 .f32) :
    S1x256x512.Idx → EReal := fun y =>
  key (fun j => k0_pay3 (F := Ideal) x g w (ix2 (y 1) j)) (fun d => gk (ix2 0 d)) (y 2)

/-- A column of head `h` of the keys. -/
theorem key_head (kv : Fin 1024 → EReal) (g : Fin 128 → EReal) (c : Fin 512) (h : ℕ) (d : Fin 128) (hh : h < 4) (e : c.val = h * 128 + d.val) :
    key kv g c = headNorm (fun d => kv ⟨h * 128 + d.val, by omega⟩) g d := by
  have h1 : c.val / 128 = h := by omega
  have h2 : (⟨c.val % 128, Nat.mod_lt _ (by omega)⟩ : Fin 128) = d := Fin.ext (by show c.val % 128 = d.val; omega)
  unfold key
  rw [h2]
  simp only [h1]

/-- What a point leaves in the keys' buffer. -/
theorem out4_at (x : FVec Ideal S1x256x1024 .f32) (g : FVec Ideal S1x1024 .f32) (w : FVec Ideal S1024x1024 .bf16) (gk : FVec Ideal S1x128 .f32)
    (y : S1x256x512.Idx) : out0_4 (F := Ideal) x g w gk y = keyBlock x g w gk y := by
  unfold out0_4 k0_pay11 k0_pay10
  rw [View.ld_unit_zero (S := S1x256x1024) (by decide), View.ld_unit_zero (S := S1x1024) (by decide),
    View.ld_unit_zero (S := S1024x1024) (by decide), View.ld_unit_zero (S := S1x128) (by decide)]
  refine View.canon_apply_of_pieces (Val := Elt Ideal) (keyBlock x g w gk) _ ?_ y (cover0_4 _ _ _ _ y)
  intro p hp
  simp only [List.mem_cons, List.not_mem_nil, or_false] at hp
  rcases hp with rfl | rfl | rfl | rfl
  · intro z
    obtain ⟨a, r, d, rfl⟩ : ∃ (a : Fin 1) (r : Fin 256) (d : Fin 128), z = ix3 a r d := ⟨z 0, z 1, z 2, by blk_ext []⟩
    have e : (r0_7).emb (ix3 a r d) = ix3 0 r ⟨384 + d.val, by omega⟩ := by blk_ext []
    refine (pay1_at _ _ a r d).trans ?_
    rw [e]
    simp only [pay4_eq]
    exact (key_head (fun j => k0_pay3 (F := Ideal) x g w (ix2 r j)) (fun d => gk (ix2 0 d)) ⟨384 + d.val, by omega⟩ 3 d (by omega) rfl).symm
  · intro z
    obtain ⟨a, r, d, rfl⟩ : ∃ (a : Fin 1) (r : Fin 256) (d : Fin 128), z = ix3 a r d := ⟨z 0, z 1, z 2, by blk_ext []⟩
    have e : (r0_6).emb (ix3 a r d) = ix3 0 r ⟨256 + d.val, by omega⟩ := by blk_ext []
    refine (pay7_at _ _ a r d).trans ?_
    rw [e]
    simp only [pay4_eq]
    exact (key_head (fun j => k0_pay3 (F := Ideal) x g w (ix2 r j)) (fun d => gk (ix2 0 d)) ⟨256 + d.val, by omega⟩ 2 d (by omega) rfl).symm
  · intro z
    obtain ⟨a, r, d, rfl⟩ : ∃ (a : Fin 1) (r : Fin 256) (d : Fin 128), z = ix3 a r d := ⟨z 0, z 1, z 2, by blk_ext []⟩
    have e : (r0_5).emb (ix3 a r d) = ix3 0 r ⟨128 + d.val, by omega⟩ := by blk_ext []
    refine (pay6_at _ _ a r d).trans ?_
    rw [e]
    simp only [pay4_eq]
    exact (key_head (fun j => k0_pay3 (F := Ideal) x g w (ix2 r j)) (fun d => gk (ix2 0 d)) ⟨128 + d.val, by omega⟩ 1 d (by omega) rfl).symm
  · intro z
    obtain ⟨a, r, d, rfl⟩ : ∃ (a : Fin 1) (r : Fin 256) (d : Fin 128), z = ix3 a r d := ⟨z 0, z 1, z 2, by blk_ext []⟩
    have e : (r0_4).emb (ix3 a r d) = ix3 0 r ⟨d.val, by omega⟩ := by blk_ext []
    refine (pay5_at _ _ _ _ a r d).trans ?_
    rw [e]
    refine Eq.trans ?_ (key_head (fun j => k0_pay3 (F := Ideal) x g w (ix2 r j)) (fun d => gk (ix2 0 d)) ⟨d.val, by omega⟩ 0 d (by omega) (by show d.val = 0 * 128 + d.val; omega)).symm
    simp only [Nat.zero_mul, Nat.zero_add]

/-- What a point leaves in the values' buffer. -/
theorem out5_at (x : FVec Ideal S1x256x1024 .f32) (g : FVec Ideal S1x1024 .f32) (w : FVec Ideal S1024x1024 .bf16) (gk : FVec Ideal S1x128 .f32)
    (a : Fin 1) (r : Fin 256) (j : Fin 512) :
    out0_5 (F := Ideal) x g w gk (ix3 a r j) = k0_pay3 (F := Ideal) x g w (ix2 r ⟨512 + j.val, by omega⟩) := by
  unfold out0_5 k0_pay10
  rw [View.canon_unit_zero (S := S1x256x512) (by decide), pay2_at, View.ld_unit_zero (S := S1x256x1024) (by decide), View.ld_unit_zero (S := S1x1024) (by decide),
    View.ld_unit_zero (S := S1024x1024) (by decide)]

variable (m : (ℓ : Loc nD τ sig) → Buf (Elt Ideal) ℓ)

/-- The blocks grid point `t` reads and writes: sequence `t`. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-- There are four points. -/
theorem lt_N (t : Fin cfg0.N) : t.val < 4 := lt_of_lt_of_eq t.isLt N_0

/-- The sequence's memory. -/
theorem blk0 (c : Dev nD) (t : Fin cfg0.N) (r : Fin 256) (j : Fin 1024) :
    iblk m c 0 t (ix3 0 r j) = m ((c : Thread nD τ).loc main_arg0) (ix3 ⟨t.val, lt_N t⟩ r j) := by
  refine congrArg (m ((c : Thread nD τ).loc main_arg0)) (a₁ := ((View.whole main_arg0).slice (win0_0.rect t)).emb _) ?_
  blk_ext [idx t]

/-- The rows' gain. -/
theorem blk1 (c : Dev nD) (t : Fin cfg0.N) (j : Fin 1024) :
    iblk m c 1 t (ix2 0 j) = m ((c : Thread nD τ).loc main_arg1) (ix1 j) := by
  blk_simp [iblk, idx t]
  entry_read
  have ej : ((View.whole main_v0).slice (win0_1.rect t)).emb (ix2 0 j) = ix2 0 j := by blk_ext [idx t]
  rw [ej]
  pointwise []

/-- The weights. -/
theorem blk2 (c : Dev nD) (t : Fin cfg0.N) (k j : Fin 1024) :
    iblk m c 2 t (ix2 k j) = m ((c : Thread nD τ).loc main_arg2) (ix2 k j) := by
  blk_simp [iblk, idx t]
  entry_read
  have ej : ((View.whole main_v1).slice (win0_2.rect t)).emb (ix2 k j) = ix2 k j := by blk_ext [idx t]
  rw [ej]
  pointwise []

/-- The keys' gain. -/
theorem blk3 (c : Dev nD) (t : Fin cfg0.N) (j : Fin 128) :
    iblk m c 3 t (ix2 0 j) = m ((c : Thread nD τ).loc main_arg3) (ix1 j) := by
  blk_simp [iblk, idx t]
  entry_read
  have ej : ((View.whole main_v2).slice (win0_3.rect t)).emb (ix2 0 j) = ix2 0 j := by blk_ext [idx t]
  rw [ej]
  pointwise []

/-- The block's projection in terms of the arguments. -/
theorem proj_eq (c : Dev nD) (t : Fin cfg0.N) (r : Fin 256) (j : Fin 1024) :
    k0_pay3 (F := Ideal) (iblk m c 0 t) (iblk m c 1 t) (iblk m c 2 t) (ix2 r j)
      = proj (fun k => m ((c : Thread nD τ).loc main_arg0) (ix3 ⟨t.val, lt_N t⟩ r k)) (fun k => m ((c : Thread nD τ).loc main_arg1) (ix1 k))
          (fun k => m ((c : Thread nD τ).loc main_arg2) (ix2 k j)) := by
  refine (pay3_at _ _ _ r j).trans ?_
  congr 1
  · exact funext fun k => blk0 m c t r k
  · exact funext fun k => blk1 m c t k
  · exact funext fun k => blk2 m c t k j

/-- THE KEYS: the first array the kernel leaves is the reference's. -/
theorem final_keys (c : Dev nD) :
    (dats m 0 c).arrAt 4 (cfgs 0).N
      = Cert.MemKvRefIdeal.Layer.KEYS (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  obtain ⟨a, r, q, rfl⟩ : ∃ (a : Fin 1) (r : Fin 256) (q : Fin 512), y = ix3 a r q := ⟨y 0, y 1, y 2, by blk_ext []⟩
  have ej : ((View.whole main_v3_0).slice (win0_4.rect t)).emb (ix3 a r q) = ix3 ⟨t.val, lt_N t⟩ r q := by
    blk_ext [idx t]
  rw [ej, after0_4, out4_at]
  refine Eq.trans ?_ (Cert.MemKvRefIdeal.Layer.keys_at _ _ _ _ ⟨t.val, lt_N t⟩ r q).symm
  show key _ _ q = _
  congr 1
  · exact funext fun j => proj_eq m c t r j
  · exact funext fun d => blk3 m c t d

/-- THE VALUES: the second array the kernel leaves is the reference's. -/
theorem final_values (c : Dev nD) :
    (dats m 0 c).arrAt 5 (cfgs 0).N
      = Cert.MemKvRefIdeal.Layer.VALUES (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  obtain ⟨a, r, q, rfl⟩ : ∃ (a : Fin 1) (r : Fin 256) (q : Fin 512), y = ix3 a r q := ⟨y 0, y 1, y 2, by blk_ext []⟩
  have ej : ((View.whole main_v3_1).slice (win0_5.rect t)).emb (ix3 a r q) = ix3 ⟨t.val, lt_N t⟩ r q := by
    blk_ext [idx t]
  rw [ej, after0_5, out5_at, proj_eq]
  exact (Cert.MemKvRefIdeal.Layer.values_at _ _ _ ⟨t.val, lt_N t⟩ r q).symm

end Cert.MemKvIdeal.Value

end
-- ==== Proof.MemKvClaims.lean ====
/- The claims about the memory's keys and values: the frames, and the value claim assembled from the kernel's final arrays
   (`MemKvFinal`) and the reference's composed terms. -/
module

public import proofs.«01_k».proof.Defs
public import proofs.«01_k».proof.Proof.MemKvFinal
public import proofs.«01_k».proof.Proof.Gen.MemKv.Frame
public import proofs.«01_k».proof.Proof.Gen.MemKvIdeal.Frame
public import proofs.«01_k».proof.Proof.Gen.MemKvRefIdeal.Run
public import Idealize.ShloMosaic.Lib.Claim
public import Idealize.ShloMosaic.Lib.Quiescent

@[expose] public section

set_option maxRecDepth 16384

noncomputable section

namespace Cert.Proof

open Idealize.ShloMosaic Idealize.SL.Sem Cert.MemKv

/-- The memory kernel, as written, leaves its arguments as they were and every semaphore at zero. -/
theorem frame_MemKv : Cert.quiescent_MemKv := fun m ρ _ => Cert.MemKv.Gen.frame m ρ

/-- The same of the kernel read at the extended reals. -/
theorem frame_MemKvIdeal : Cert.quiescent_MemKvIdeal := fun m ρ _ => Cert.MemKvIdeal.Gen.frame m ρ

set_option maxHeartbeats 3200000 in
/-- The reference leaves its arguments as they were and every semaphore at zero. -/
theorem frame_MemKvRefIdeal : Cert.quiescent_MemKvRefIdeal := by
  intro m g _
  hlo_run
  · exact fun _ => ⟨trivial, trivial, trivial, trivial⟩
  · exact sem_eq_zero_of_no_sems (by decide) _

/-- The kernel's two results are the reference's, entry by entry. -/
theorem algebraic_MemKv : Cert.algebraic_MemKvIdeal_MemKvRefIdeal := by
  pair_intro
  · run_from Cert.MemKvIdeal.Gen.run_main m g
  · run_from Cert.MemKvRefIdeal.Value.run m' g'
    · exact (Cert.MemKvIdeal.Value.final_keys m c).symm
    · exact (Cert.MemKvIdeal.Value.final_values m c).symm

end Cert.Proof

end
-- ==== Proof.PostMath.lean ====
/-
  The mathematics of the layer's second half: the mixed groups' norms and projection onto the residual row, the memory
  queries, and attention to the memory.
-/
module

public import proofs.«01_k».proof.Proof.OnlineSoftmax
public import proofs.«01_k».proof.Proof.MemKvReference

@[expose] public section

set_option maxRecDepth 16384

noncomputable section

namespace PostMixer

open Idealize.ShloMosaic MemoryKv Cert

/-- An entry of the root-mean-square norm of the group `x` of 512 entries with gain `g`. -/
def groupNorm (x g : Fin 512 → EReal) (j : Fin 512) : EReal :=
  x j * Ideal.rsqrt (Ideal.div (∑ k : Fin 512, x k * x k) (Ideal.ofBits .f32 0x44000000#32) + Ideal.ofBits .f32 0x358637BD#32) * g j

/-- An entry of the residual row plus the projection of the two groups' norms. -/
def mixed (x : EReal) (a b ga gb w₀ w₁ : Fin 512 → EReal) : EReal :=
  x + ((∑ k : Fin 512, groupNorm a ga k * w₀ k) + ∑ k : Fin 512, groupNorm b gb k * w₁ k)

/-- An entry of the memory query: the projection of the mixed row's norm. -/
def query (x g w : Fin 1024 → EReal) : EReal := ∑ k : Fin 1024, ConvFfn.norm x g k * w k

/-- The score of a query's head `y`, normed with gain `g`, against the memory key `k`. -/
def score (y g k : Fin 128 → EReal) : EReal := (∑ d : Fin 128, headNorm y g d * k d) * Ideal.ofBits .f32 0x3DB504F3#32

/-- The same score with the scale taken into the gain. -/
def scoreScaled (y g k : Fin 128 → EReal) : EReal :=
  ∑ d : Fin 128, headNorm y (fun d => g d * Ideal.ofBits .f32 0x3DB504F3#32) d * k d

/-- The largest of the scores. -/
def top (s : Fin 256 → EReal) : EReal := Finset.univ.fold max (Ideal.ofBits .f32 0xFF800000#32) s

/-- `-∞` of the format, read as the least extended real. -/
theorem neg_inf : Ideal.ofBits .f32 0xFF800000#32 = (⊥ : EReal) := by
  simp [Ideal.ofBits, Ideal.ieee]

/-- The average of the values `v` weighted by the normalised exponentials of the scores `s`. -/
def attend (s v : Fin 256 → EReal) : EReal :=
  ∑ k : Fin 256, Ideal.div (Ideal.exp (s k - top s)) (∑ l : Fin 256, Ideal.exp (s l - top s)) * v k

/-- The same with the weighted sum taken first and divided once. -/
def attendOnce (s v : Fin 256 → EReal) : EReal :=
  Ideal.div (∑ k : Fin 256, Ideal.exp (s k - top s) * v k) (∑ l : Fin 256, Ideal.exp (s l - top s))

/-- One entry of the layer's result from the mixed row `x`: the row itself plus the projection of what the memory gives,
    each column attending with the query of its head. -/
def layer (x gm : Fin 1024 → EReal) (wq : Fin 1024 → Fin 512 → EReal) (gq : Fin 128 → EReal) (k v : Fin 256 → Fin 512 → EReal)
    (wo : Fin 512 → Fin 1024 → EReal) (j : Fin 1024) : EReal :=
  x j + ∑ i : Fin 512, attend (fun n => score (fun d => query x gm fun c => wq c ⟨i.val / 128 * 128 + d.val, by omega⟩) gq
    fun d => k n ⟨i.val / 128 * 128 + d.val, by omega⟩) (fun n => v n i) * wo i j

/-- The scale is a nonnegative real. -/
theorem scale_real : ∃ c : ℝ, 0 ≤ c ∧ Ideal.ofBits .f32 0x3DB504F3#32 = (c : EReal) := by
  refine ⟨_, ?_, by simp [Ideal.ofBits, Ideal.ieee]; rfl⟩
  positivity

/-- The scale may be taken into the gain. -/
theorem scoreScaled_eq (y g k : Fin 128 → EReal) : scoreScaled y g k = score y g k := by
  obtain ⟨c, hc, e⟩ := scale_real
  unfold scoreScaled score headNorm
  rw [e, mul_comm _ (c : EReal), OnlineSoftmax.coe_mul_sum c hc]
  refine Finset.sum_congr rfl fun d _ => ?_
  rw [← mul_assoc, mul_comm _ (c : EReal), mul_assoc]

/-- A sum over 1024 columns is the sum over the first 512 plus the sum over the last 512. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-- A square is not negative. -/
theorem sq_nonneg' (x : EReal) : 0 ≤ x * x := by
  induction x with
  | bot => simp
  | top => simp
  | coe r => rw [← EReal.coe_mul]; exact EReal.coe_nonneg.mpr (mul_self_nonneg r)

/-- The number of a head's entries, as the format holds it, is a positive real. -/
theorem count_real : ∃ n : ℝ, 0 < n ∧ Ideal.ofBits .f32 0x43000000#32 = (n : EReal) := by
  refine ⟨_, ?_, by simp [Ideal.ofBits, Ideal.ieee]; rfl⟩
  positivity

/-- The norm's small addend is a positive real. -/
theorem eps_real : ∃ n : ℝ, 0 < n ∧ Ideal.ofBits .f32 0x358637BD#32 = (n : EReal) := by
  refine ⟨_, ?_, by simp [Ideal.ofBits, Ideal.ieee]; rfl⟩
  positivity

/-- A head's norm with a real gain is real, whatever the head's entries: an infinite entry makes the sum of squares
    infinite and the norm zero. -/
theorem headNorm_real (y g : Fin 128 → EReal) (hg : ∀ d, ∃ r : ℝ, g d = (r : EReal)) (d : Fin 128) :
    ∃ r : ℝ, headNorm y g d = (r : EReal) := by
  obtain ⟨n, hn, en⟩ := count_real
  obtain ⟨ε, hε, eε⟩ := eps_real
  unfold headNorm
  rw [en, eε]
  by_cases h : ∀ j, ∃ r : ℝ, y j = (r : EReal)
  · choose a ha using h
    obtain ⟨b, hb⟩ := hg d
    have hs : ∑ k : Fin 128, y k * y k = ((∑ k : Fin 128, a k * a k : ℝ) : EReal) := by
      rw [OnlineSoftmax.coe_sum]
      exact Finset.sum_congr rfl fun k _ => by rw [ha, EReal.coe_mul]
    have h0 : 0 ≤ ∑ k : Fin 128, a k * a k := Finset.sum_nonneg fun k _ => mul_self_nonneg _
    have hp : 0 < (∑ k : Fin 128, a k * a k) / n + ε := by positivity
    rw [hs, Ideal.div_coe hn.ne', ← EReal.coe_mul, mul_one_div, ← EReal.coe_add, Ideal.rsqrt_coe, if_neg hp.not_gt, if_neg hp.ne', ha d, hb]
    exact ⟨a d * (Real.sqrt ((∑ k : Fin 128, a k * a k) / n + ε))⁻¹ * b, by rw [EReal.coe_mul, EReal.coe_mul]⟩
  · obtain ⟨j, hj⟩ := not_forall.mp h
    have ht : y j * y j = ⊤ := by
      generalize y j = x at hj
      induction x with
      | bot => simp
      | top => simp
      | coe r => exact absurd ⟨r, rfl⟩ hj
    have hs : ∑ k : Fin 128, y k * y k = ⊤ := by
      refine top_le_iff.mp (ht ▸ ?_)
      exact Finset.single_le_sum (f := fun k => y k * y k) (fun k _ => sq_nonneg' (y k)) (Finset.mem_univ j)
    refine ⟨0, ?_⟩
    rw [hs, show Ideal.div ⊤ (n : EReal) = ⊤ by
      unfold Ideal.div
      rw [if_neg (EReal.coe_ne_zero.mpr hn.ne'), ← EReal.coe_inv]
      exact EReal.top_mul_coe_of_pos (inv_pos.mpr hn), EReal.top_add_coe, Ideal.rsqrt_top, mul_zero, zero_mul, EReal.coe_zero]

/-- A score against a real key, with a real gain, is real. -/
theorem score_real (y g k : Fin 128 → EReal) (hg : ∀ d, ∃ r : ℝ, g d = (r : EReal)) (hk : ∀ d, ∃ r : ℝ, k d = (r : EReal)) :
    ∃ r : ℝ, score y g k = (r : EReal) := by
  obtain ⟨c, -, e⟩ := scale_real
  choose a ha using headNorm_real y g hg
  choose b hb using hk
  refine ⟨(∑ d, a d * b d) * c, ?_⟩
  unfold score
  rw [e, EReal.coe_mul, OnlineSoftmax.coe_sum]
  simp only [ha, hb, EReal.coe_mul]

/-- Where the scores are real, dividing once gives the weighted average. -/
theorem attendOnce_eq (s v : Fin 256 → EReal) (hs : ∀ k, ∃ r : ℝ, s k = (r : EReal)) : attendOnce s v = attend s v := by
  choose f hf using hs
  obtain rfl : s = fun k => (f k : EReal) := funext hf
  obtain ⟨μ, hμ⟩ := OnlineSoftmax.fold_max_bot f
  have e : top (fun k => (f k : EReal)) = (μ : EReal) := by
    unfold top
    rw [neg_inf]
    exact hμ
  unfold attendOnce attend
  rw [e, ← OnlineSoftmax.average f v μ μ]
  simp only [← EReal.coe_sub, Ideal.exp_coe, mul_comm (v _)]

end PostMixer

end
-- ==== Proof.PostPayloads.lean ====
/-
  What one grid point of the kernel of the layer's second half computes, entry by entry.
-/
module

public import proofs.«01_k».proof.Proof.PostMath
public import proofs.«01_k».proof.Proof.Gen.PostIdeal.Frame
public import Idealize.ShloMosaic.Lib.Claim

@[expose] public section

set_option maxRecDepth 16384

noncomputable section

namespace Cert.PostIdeal.Value

open Cert.PostIdeal Cert.PostIdeal.Gen Idealize.ShloMosaic Idealize.ShloMosaic.TcCoe Idealize.SL.Sem
open PostMixer MemoryKv

/-- The head's columns `y`, normed with gain `g`. -/
def HQ (y : FVec Ideal S512x128 .f32) (g : FVec Ideal S1x128 .f32) : FVec Ideal S512x128 .f32 :=
  mulf (mulf y (broadcastTo S512x128 (rsqrt (addf (divf (shapeCast S512x1 (multiReduction .add [1] S512 (mulf y y) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 g broadcasts_S1x128_S512x128)

/-- The normed head's scores against the memory's keys. -/
def SK (q : FVec Ideal S512x128 .f32) (k : FVec Ideal S1x256x128 .bf16) : FVec Ideal S512x256 .f32 :=
  matmul dot_S512x128_S256x128_S512x256_1_1_0_0_n_n none (truncf .bf16 q bitsLt_bf16_f32) (shapeCast S256x128 k shapeCasts_S1x256x128_S256x128) (constant S512x256 .f32 0x00000000#32)

/-- Each row's largest score. -/
def MK (s : FVec Ideal S512x256 .f32) : FVec Ideal S512 .f32 :=
  multiReduction .maximumf [1] S512 s 0xFF800000#32 reduces_S512x256_S512 (.inl rfl) rfl

/-- The exponentials of the scores less the row's largest. -/
def EK (s : FVec Ideal S512x256 .f32) (M : FVec Ideal S512 .f32) : FVec Ideal S512x256 .f32 :=
  exp (subf s (broadcastTo S512x256 (shapeCast S512x1 M shapeCasts_S512_S512x1) broadcasts_S512x1_S512x256))

/-- The values' weighted sum over the weights' sum. -/
def OK (e : FVec Ideal S512x256 .f32) (v : FVec Ideal S1x256x128 .bf16) : FVec Ideal S512x128 .bf16 :=
  truncf .bf16 (divf (matmul dot_S512x256_S256x128_S512x128_1_0_0_1_n_n none (truncf .bf16 e bitsLt_bf16_f32) (shapeCast S256x128 v shapeCasts_S1x256x128_S256x128) (constant S512x128 .f32 0x00000000#32)) (broadcastTo S512x128 (shapeCast S512x1 (multiReduction .add [1] S512 e 0x00000000#32 reduces_S512x256_S512 (.inl rfl) rfl) shapeCasts_S512_S512x1) broadcasts_S512x1_S512x128)) bitsLt_bf16_f32

/-- A head's attention to the memory. -/
def HEAD (y : FVec Ideal S512x128 .f32) (g : FVec Ideal S1x128 .f32) (k v : FVec Ideal S1x256x128 .bf16) : FVec Ideal S512x128 .bf16 :=
  OK (EK (SK (HQ y g) k) (MK (SK (HQ y g) k))) v

/-- The mixed rows plus the projection of the four heads side by side. -/
def PO (x : FVec Ideal S512x1024 .f32) (o₀ o₁ o₂ o₃ : FVec Ideal S512x128 .bf16) (w : FVec Ideal S512x1024 .bf16) : FVec Ideal S1x512x1024 .f32 :=
  shapeCast S1x512x1024 (addf x (matmul dot_S512x512_S512x1024_S512x1024_1_0_0_1_n_n none (concatenate S512x512 1 [⟨S512x128, o₀⟩, ⟨S512x128, o₁⟩, ⟨S512x128, o₂⟩, ⟨S512x128, o₃⟩] concatenates_S512x128_S512x128_S512x128_S512x128_S512x512_d1) (shapeCast S512x1024 w shapeCasts_S512x1024_S512x1024) (constant S512x1024 .f32 0x00000000#32))) shapeCasts_S512x1024_S1x512x1024

/-- The four heads' attention and the projection, from the mixed rows `x`, the queries `q` and the scaled gain `g`. -/
theorem body_eq (x : FVec Ideal S512x1024 .f32) (q : FVec Ideal S512x512 .f32) (g : FVec Ideal S1x128 .f32) (o₀ : FVec Ideal S512x128 .bf16)
    (k₁ v₁ k₂ v₂ k₃ v₃ : FVec Ideal S1x256x128 .bf16) (w : FVec Ideal S512x1024 .bf16) :
    k0_pay15 (F := Ideal) x g o₀ (k0_pay11 (k0_pay10 q g k₁) v₁) (k0_pay12 q g k₂ v₂) (k0_pay13 q) (k0_pay14 q) k₃ v₃ w
      = PO x o₀ (HEAD (extractStridedSlice S512x128 ![0, 128] q slices_S512x512_o0_128_S512x128) g k₁ v₁)
          (HEAD (extractStridedSlice S512x128 ![0, 256] q slices_S512x512_o0_256_S512x128) g k₂ v₂)
          (HEAD (extractStridedSlice S512x128 ![0, 384] q slices_S512x512_o0_384_S512x128) g k₃ v₃) w := rfl

/-- The first head's attention. -/
theorem head0_eq (x : FVec Ideal S512x1024 .f32) (a b : FVec Ideal S512x512 .bf16) (w₀ w₁ : FVec Ideal S512x1024 .bf16) (gm : FVec Ideal S1x1024 .f32)
    (wq : FVec Ideal S1024x512 .bf16) (g : FVec Ideal S1x128 .f32) (k v : FVec Ideal S1x256x128 .bf16) :
    k0_pay9 (F := Ideal) (k0_pay7 x a b w₀ w₁ gm wq) (k0_pay8 g) k v
      = HEAD (extractStridedSlice S512x128 ![0, 0] (k0_pay5 x a b w₀ w₁ gm wq) slices_S512x512_o0_0_S512x128) (k0_pay6 g) k v := rfl

/-- An entry of a normed head. -/
theorem HQ_at (y : FVec Ideal S512x128 .f32) (g : FVec Ideal S1x128 .f32) (r : Fin 512) (d : Fin 128) :
    HQ y g (ix2 r d) = headNorm (fun d => y (ix2 r d)) (fun d => g (ix2 0 d)) d := by
  pointwise [HQ, headNorm]

/-- A score. -/
theorem SK_at (q : FVec Ideal S512x128 .f32) (k : FVec Ideal S1x256x128 .bf16) (r : Fin 512) (n : Fin 256) :
    SK q k (ix2 r n) = ∑ d : Fin 128, q (ix2 r d) * k (ix3 0 n d) := by
  pointwise [SK]

/-- A row's largest score. -/
theorem MK_at (s : FVec Ideal S512x256 .f32) (r : Fin 512) : MK s (ix1 r) = top fun n => s (ix2 r n) := by
  pointwise [MK, top]

/-- An exponential. -/
theorem EK_at (s : FVec Ideal S512x256 .f32) (M : FVec Ideal S512 .f32) (r : Fin 512) (n : Fin 256) :
    EK s M (ix2 r n) = Ideal.exp (s (ix2 r n) - M (ix1 r)) := by
  pointwise [EK]

/-- A weighted sum over the weights' sum. -/
theorem OK_at (e : FVec Ideal S512x256 .f32) (v : FVec Ideal S1x256x128 .bf16) (r : Fin 512) (d : Fin 128) :
    OK e v (ix2 r d) = Ideal.div (∑ n : Fin 256, e (ix2 r n) * v (ix3 0 n d)) (∑ n : Fin 256, e (ix2 r n)) := by
  pointwise [OK]

/-- The scaled gain. -/
theorem pay6_at (g : FVec Ideal S1x128 .f32) (d : Fin 128) :
    k0_pay6 (F := Ideal) g (ix2 0 d) = g (ix2 0 d) * Ideal.ofBits .f32 0x3DB504F3#32 := by
  pointwise [k0_pay6]

/-- An entry of a head's attention with the scaled gain: where gain and keys are real, the weighted average of the
    values. -/
theorem HEAD_at (y : FVec Ideal S512x128 .f32) (g : FVec Ideal S1x128 .f32) (k v : FVec Ideal S1x256x128 .bf16) (r : Fin 512) (d : Fin 128)
    (hg : ∀ d, ∃ t : ℝ, g (ix2 0 d) = (t : EReal)) (hk : ∀ n d, ∃ t : ℝ, k (ix3 0 n d) = (t : EReal)) :
    HEAD y (k0_pay6 (F := Ideal) g) k v (ix2 r d)
      = attend (fun n => score (fun d => y (ix2 r d)) (fun d => g (ix2 0 d)) fun d => k (ix3 0 n d)) (fun n => v (ix3 0 n d)) := by
  have hs : ∀ n : Fin 256, SK (HQ y (k0_pay6 (F := Ideal) g)) k (ix2 r n)
      = score (fun d => y (ix2 r d)) (fun d => g (ix2 0 d)) fun d => k (ix3 0 n d) := fun n => by
    rw [SK_at, ← scoreScaled_eq]
    simp only [HQ_at, pay6_at]
    rfl
  unfold HEAD
  rw [OK_at, ← attendOnce_eq _ _ fun n => score_real _ _ _ hg (hk n)]
  simp only [EK_at, MK_at, hs]
  rfl

/-- An entry of the first group's norm. -/
theorem pay2_at (a : FVec Ideal S1x512x512 .f32) (g : FVec Ideal S1x512 .f32) (r j : Fin 512) :
    k0_pay2 (F := Ideal) a g (ix2 r j) = groupNorm (fun k => a (ix3 0 r k)) (fun k => g (ix2 0 k)) j := by
  pointwise [k0_pay2, groupNorm]

/-- An entry of the second group's norm. -/
theorem pay3_at (b : FVec Ideal S1x512x512 .f32) (g : FVec Ideal S1x512 .f32) (r j : Fin 512) :
    k0_pay3 (F := Ideal) b g (ix2 r j) = groupNorm (fun k => b (ix3 0 k r)) (fun k => g (ix2 0 k)) j := by
  pointwise [k0_pay3, groupNorm]

/-- An entry of the mixed rows. -/
theorem pay4_at (x : FVec Ideal S1x512x1024 .f32) (a b : FVec Ideal S1x512x512 .f32) (ga gb : FVec Ideal S1x512 .f32) (w₀ w₁ : FVec Ideal S512x1024 .bf16)
    (r : Fin 512) (j : Fin 1024) :
    k0_pay4 (F := Ideal) (k0_pay1 x) (k0_pay2 a ga) (k0_pay3 b gb) w₀ w₁ (ix2 r j)
      = mixed (x (ix3 0 r j)) (fun k => a (ix3 0 r k)) (fun k => b (ix3 0 k r)) (fun k => ga (ix2 0 k)) (fun k => gb (ix2 0 k))
          (fun k => w₀ (ix2 k j)) (fun k => w₁ (ix2 k j)) := by
  have e : ∀ (u v : FVec Ideal S512x512 .bf16), k0_pay4 (F := Ideal) (k0_pay1 x) u v w₀ w₁ (ix2 r j)
      = x (ix3 0 r j) + (∑ k : Fin 512, u (ix2 r k) * w₀ (ix2 k j)) + ∑ k : Fin 512, v (ix2 r k) * w₁ (ix2 k j) := fun u v => by
    pointwise [k0_pay4, k0_pay1]
  rw [e, add_assoc]
  simp only [pay2_at, pay3_at]
  rfl

/-- An entry of the memory queries. -/
theorem pay5_at (x : FVec Ideal S512x1024 .f32) (a b : FVec Ideal S512x512 .bf16) (w₀ w₁ : FVec Ideal S512x1024 .bf16) (gm : FVec Ideal S1x1024 .f32)
    (wq : FVec Ideal S1024x512 .bf16) (r j : Fin 512) :
    k0_pay5 (F := Ideal) x a b w₀ w₁ gm wq (ix2 r j)
      = query (fun k => k0_pay4 (F := Ideal) x a b w₀ w₁ (ix2 r k)) (fun k => gm (ix2 0 k)) (fun k => wq (ix2 k j)) := by
  unfold k0_pay5
  generalize k0_pay4 (F := Ideal) x a b w₀ w₁ = y
  pointwise [query, ConvFfn.norm]

/-- An entry of the result, where the four heads' columns are the values of one function `A`. -/
theorem PO_at (x : FVec Ideal S512x1024 .f32) (o₀ o₁ o₂ o₃ : FVec Ideal S512x128 .bf16) (w : FVec Ideal S512x1024 .bf16) (z : Fin 1) (r : Fin 512)
    (j : Fin 1024) (A : Fin 512 → EReal) (h₀ : ∀ d : Fin 128, o₀ (ix2 r d) = A ⟨d.val, by omega⟩) (h₁ : ∀ d : Fin 128, o₁ (ix2 r d) = A ⟨128 + d.val, by omega⟩)
    (h₂ : ∀ d : Fin 128, o₂ (ix2 r d) = A ⟨256 + d.val, by omega⟩) (h₃ : ∀ d : Fin 128, o₃ (ix2 r d) = A ⟨384 + d.val, by omega⟩) :
    PO x o₀ o₁ o₂ o₃ w (ix3 z r j) = x (ix2 r j) + ∑ i : Fin 512, A i * w (ix2 i j) := by
  have e : PO x o₀ o₁ o₂ o₃ w (ix3 z r j) = x (ix2 r j) + ∑ i : Fin 512,
      concatenate S512x512 1 [⟨S512x128, o₀⟩, ⟨S512x128, o₁⟩, ⟨S512x128, o₂⟩, ⟨S512x128, o₃⟩] concatenates_S512x128_S512x128_S512x128_S512x128_S512x512_d1 (ix2 r i) * w (ix2 i j) := by
    unfold PO
    generalize concatenate S512x512 1 [⟨S512x128, o₀⟩, ⟨S512x128, o₁⟩, ⟨S512x128, o₂⟩, ⟨S512x128, o₃⟩] concatenates_S512x128_S512x128_S512x128_S512x128_S512x512_d1 = u
    pointwise []
  rw [e]
  refine congrArg (x (ix2 r j) + ·) (Finset.sum_congr rfl fun i _ => congrArg (· * w (ix2 i j)) ?_)
  by_cases c₀ : i.val < 128
  · obtain ⟨d, rfl⟩ : ∃ d : Fin 128, i = ⟨d.val, by clear c₀; omega⟩ := ⟨⟨i.val, c₀⟩, rfl⟩
    rw [← h₀]
    pointwise []
  by_cases c₁ : i.val < 256
  · obtain ⟨d, rfl⟩ : ∃ d : Fin 128, i = ⟨128 + d.val, by clear c₀ c₁; omega⟩ := ⟨⟨i.val - 128, by omega⟩, Fin.ext (by show i.val = 128 + (i.val - 128); omega)⟩
    rw [← h₁]
    pointwise []
  by_cases c₂ : i.val < 384
  · obtain ⟨d, rfl⟩ : ∃ d : Fin 128, i = ⟨256 + d.val, by clear c₀ c₁ c₂; omega⟩ := ⟨⟨i.val - 256, by omega⟩, Fin.ext (by show i.val = 256 + (i.val - 256); omega)⟩
    rw [← h₂]
    pointwise []
    rw [dif_neg (by omega), dif_neg (by omega), dif_pos (by omega)]
    exact congrArg (fun l => o₂ (ix2 r l)) (Fin.ext (show 256 + d.val - 128 - 128 = d.val by omega))
  · obtain ⟨d, rfl⟩ : ∃ d : Fin 128, i = ⟨384 + d.val, by clear c₀ c₁ c₂; omega⟩ := ⟨⟨i.val - 384, by have := i.isLt; omega⟩, Fin.ext (by show i.val = 384 + (i.val - 384); omega)⟩
    rw [← h₃]
    pointwise []
    rw [dif_neg (by omega), dif_neg (by omega), dif_neg (by omega)]
    exact congrArg (fun l => o₃ (ix2 r l)) (Fin.ext (show 384 + d.val - 128 - 128 - 128 = d.val by omega))

end Cert.PostIdeal.Value

end
-- ==== Proof.PostValue.lean ====
/-
  The block one grid point of the kernel of the layer's second half leaves, entry by entry.
-/
module

public import proofs.«01_k».proof.Proof.PostPayloads

@[expose] public section

set_option maxRecDepth 16384

noncomputable section

namespace Cert.PostIdeal.Value

open Cert.PostIdeal Cert.PostIdeal.Gen Idealize.ShloMosaic Idealize.ShloMosaic.TcCoe Idealize.SL.Sem
open PostMixer MemoryKv

/-- What the memory gives column `i`, from the row's queries `q`. -/
def att (q : Fin 512 → EReal) (gq : Fin 128 → EReal) (k v : Fin 256 → Fin 512 → EReal) (i : Fin 512) : EReal :=
  attend (fun n => score (fun d => q ⟨i.val / 128 * 128 + d.val, by omega⟩) gq fun d => k n ⟨i.val / 128 * 128 + d.val, by omega⟩) (fun n => v n i)

/-- A column of head `h`. -/
theorem att_head (q : Fin 512 → EReal) (gq : Fin 128 → EReal) (k v : Fin 256 → Fin 512 → EReal) (i : Fin 512) (h : ℕ) (d : Fin 128) (hh : h < 4)
    (e : i.val = h * 128 + d.val) :
    att q gq k v i = attend (fun n => score (fun d => q ⟨h * 128 + d.val, by omega⟩) gq fun d => k n ⟨h * 128 + d.val, by omega⟩) (fun n => v n i) := by
  have h1 : i.val / 128 = h := by omega
  unfold att
  simp only [h1]

/-- The columns of a head of the queries. -/
theorem slice0_at (q : FVec Ideal S512x512 .f32) (r : Fin 512) (d : Fin 128) :
    extractStridedSlice S512x128 ![0, 0] q slices_S512x512_o0_0_S512x128 (ix2 r d) = q (ix2 r ⟨d.val, by omega⟩) := by
  pointwise []

/-- The columns of the second head of the queries. -/
theorem slice1_at (q : FVec Ideal S512x512 .f32) (r : Fin 512) (d : Fin 128) :
    extractStridedSlice S512x128 ![0, 128] q slices_S512x512_o0_128_S512x128 (ix2 r d) = q (ix2 r ⟨128 + d.val, by omega⟩) := by
  pointwise []

/-- The columns of the third head of the queries. -/
theorem slice2_at (q : FVec Ideal S512x512 .f32) (r : Fin 512) (d : Fin 128) :
    extractStridedSlice S512x128 ![0, 256] q slices_S512x512_o0_256_S512x128 (ix2 r d) = q (ix2 r ⟨256 + d.val, by omega⟩) := by
  pointwise []

/-- The columns of the fourth head of the queries. -/
theorem slice3_at (q : FVec Ideal S512x512 .f32) (r : Fin 512) (d : Fin 128) :
    extractStridedSlice S512x128 ![0, 384] q slices_S512x512_o0_384_S512x128 (ix2 r d) = q (ix2 r ⟨384 + d.val, by omega⟩) := by
  pointwise []

/-- The first head's columns of a memory block. -/
theorem kv0 (x : FVec Ideal S1x256x512 .bf16) (n : Fin 256) (d : Fin 128) :
    View.ld (Val := Elt Ideal) (e' := .bf16) x r0_8 (ix3 0 n d) = x (ix3 0 n ⟨d.val, by omega⟩) := by
  have e : (r0_8).emb (ix3 0 n d) = ix3 0 n ⟨d.val, by omega⟩ := by blk_ext []
  exact congrArg x e

/-- The second head's columns of a memory block. -/
theorem kv1 (x : FVec Ideal S1x256x512 .bf16) (n : Fin 256) (d : Fin 128) :
    View.ld (Val := Elt Ideal) (e' := .bf16) x r0_9 (ix3 0 n d) = x (ix3 0 n ⟨128 + d.val, by omega⟩) := by
  have e : (r0_9).emb (ix3 0 n d) = ix3 0 n ⟨128 + d.val, by omega⟩ := by blk_ext []
  exact congrArg x e

/-- The third head's columns of a memory block. -/
theorem kv2 (x : FVec Ideal S1x256x512 .bf16) (n : Fin 256) (d : Fin 128) :
    View.ld (Val := Elt Ideal) (e' := .bf16) x r0_10 (ix3 0 n d) = x (ix3 0 n ⟨256 + d.val, by omega⟩) := by
  have e : (r0_10).emb (ix3 0 n d) = ix3 0 n ⟨256 + d.val, by omega⟩ := by blk_ext []
  exact congrArg x e

/-- The fourth head's columns of a memory block. -/
theorem kv3 (x : FVec Ideal S1x256x512 .bf16) (n : Fin 256) (d : Fin 128) :
    View.ld (Val := Elt Ideal) (e' := .bf16) x r0_11 (ix3 0 n d) = x (ix3 0 n ⟨384 + d.val, by omega⟩) := by
  have e : (r0_11).emb (ix3 0 n d) = ix3 0 n ⟨384 + d.val, by omega⟩ := by blk_ext []
  exact congrArg x e

/-- The rows of the projection that meet the first group. -/
theorem wo0 (x : FVec Ideal S1024x1024 .bf16) (k : Fin 512) (j : Fin 1024) :
    View.ld (Val := Elt Ideal) (e' := .bf16) x r0_3 (ix2 k j) = x (ix2 ⟨k.val, by omega⟩ j) := by
  have e : (r0_3).emb (ix2 k j) = ix2 ⟨k.val, by omega⟩ j := by blk_ext []
  exact congrArg x e

/-- The rows of the projection that meet the second group. -/
theorem wo1 (x : FVec Ideal S1024x1024 .bf16) (k : Fin 512) (j : Fin 1024) :
    View.ld (Val := Elt Ideal) (e' := .bf16) x r0_4 (ix2 k j) = x (ix2 ⟨512 + k.val, by omega⟩ j) := by
  have e : (r0_4).emb (ix2 k j) = ix2 ⟨512 + k.val, by omega⟩ j := by blk_ext []
  exact congrArg x e

/-- The block's mixed rows. -/
def blockRow (x0 : FVec Ideal S1x512x1024 .f32) (x1 x2 : FVec Ideal S1x512x512 .f32) (x3 x4 : FVec Ideal S1x512 .f32) (x5 : FVec Ideal S1024x1024 .bf16)
    (r : Fin 512) (j : Fin 1024) : EReal :=
  mixed (x0 (ix3 0 r j)) (fun k => x1 (ix3 0 r k)) (fun k => x2 (ix3 0 k r)) (fun k => x3 (ix2 0 k)) (fun k => x4 (ix2 0 k))
    (fun k => x5 (ix2 ⟨k.val, by omega⟩ j)) (fun k => x5 (ix2 ⟨512 + k.val, by omega⟩ j))

/-- What a point leaves in the result's buffer, where the memory gain and the block of memory keys are real. -/
theorem out12_at (x0 : FVec Ideal S1x512x1024 .f32) (x1 x2 : FVec Ideal S1x512x512 .f32) (x3 x4 : FVec Ideal S1x512 .f32) (x5 : FVec Ideal S1024x1024 .bf16)
    (x6 : FVec Ideal S1x1024 .f32) (x7 : FVec Ideal S1024x512 .bf16) (x8 : FVec Ideal S1x128 .f32) (x9 x10 : FVec Ideal S1x256x512 .bf16)
    (x11 : FVec Ideal S512x1024 .bf16) (a : Fin 1) (r : Fin 512) (j : Fin 1024)
    (hg : ∀ d, ∃ t : ℝ, x8 (ix2 0 d) = (t : EReal)) (hk : ∀ n d, ∃ t : ℝ, x9 (ix3 0 n d) = (t : EReal)) :
    out0_12 (F := Ideal) x0 x1 x2 x3 x4 x5 x6 x7 x8 x9 x10 x11 (ix3 a r j)
      = layer (blockRow x0 x1 x2 x3 x4 x5 r) (fun j => x6 (ix2 0 j)) (fun i j => x7 (ix2 i j)) (fun d => x8 (ix2 0 d)) (fun n j => x9 (ix3 0 n j))
          (fun n j => x10 (ix3 0 n j)) (fun i j => x11 (ix2 i j)) j := by
  unfold_out out0_12
  rw [View.canon_unit_zero (S := S1x512x1024) (by decide)]
  have e0 : View.ld (Val := Elt Ideal) (e' := .f32) x1 r0_1 = x1 := View.ld_unit_zero (S := S1x512x512) (by decide) _ _
  have e1 : View.ld (Val := Elt Ideal) (e' := .f32) x2 r0_1 = x2 := View.ld_unit_zero (S := S1x512x512) (by decide) _ _
  have e2 : View.ld (Val := Elt Ideal) (e' := .f32) x3 r0_2 = x3 := View.ld_unit_zero (S := S1x512) (by decide) _ _
  have e3 : View.ld (Val := Elt Ideal) (e' := .f32) x4 r0_2 = x4 := View.ld_unit_zero (S := S1x512) (by decide) _ _
  rw [View.ld_unit_zero (S := S1x512x1024) (by decide), e0, e1, e2, e3, View.ld_unit_zero (S := S1x1024) (by decide),
    View.ld_unit_zero (S := S1024x512) (by decide), View.ld_unit_zero (S := S1x128) (by decide), View.ld_unit_zero (S := S512x1024) (by decide)]
  rw [head0_eq, body_eq]
  have hm : ∀ j : Fin 1024, k0_pay4 (F := Ideal) (k0_pay1 x0) (k0_pay2 x1 x3) (k0_pay3 x2 x4) (View.ld (Val := Elt Ideal) (e' := .bf16) x5 r0_3) (View.ld (Val := Elt Ideal) (e' := .bf16) x5 r0_4) (ix2 r j)
      = blockRow x0 x1 x2 x3 x4 x5 r j := fun j => by
    rw [pay4_at]
    exact congrArg₂ (mixed _ _ _ _ _) (funext fun k => wo0 x5 k j) (funext fun k => wo1 x5 k j)
  have hq : ∀ i : Fin 512, k0_pay5 (F := Ideal) (k0_pay1 x0) (k0_pay2 x1 x3) (k0_pay3 x2 x4) (View.ld (Val := Elt Ideal) (e' := .bf16) x5 r0_3) (View.ld (Val := Elt Ideal) (e' := .bf16) x5 r0_4) x6 x7 (ix2 r i)
      = query (blockRow x0 x1 x2 x3 x4 x5 r) (fun j => x6 (ix2 0 j)) (fun k => x7 (ix2 k i)) := fun i => by
    rw [pay5_at]
    simp only [hm]
  generalize k0_pay5 (F := Ideal) (k0_pay1 x0) (k0_pay2 x1 x3) (k0_pay3 x2 x4) (View.ld (Val := Elt Ideal) (e' := .bf16) x5 r0_3) (View.ld (Val := Elt Ideal) (e' := .bf16) x5 r0_4) x6 x7 = Q at hq ⊢
  generalize k0_pay4 (F := Ideal) (k0_pay1 x0) (k0_pay2 x1 x3) (k0_pay3 x2 x4) (View.ld (Val := Elt Ideal) (e' := .bf16) x5 r0_3) (View.ld (Val := Elt Ideal) (e' := .bf16) x5 r0_4) = X at hm ⊢
  refine (PO_at X _ _ _ _ x11 a r j (att (fun i => Q (ix2 r i)) (fun d => x8 (ix2 0 d)) (fun n j => x9 (ix3 0 n j)) (fun n j => x10 (ix3 0 n j)))
    (fun d => ?_) (fun d => ?_) (fun d => ?_) (fun d => ?_)).trans ?_
  · rw [HEAD_at _ _ _ _ _ _ hg (fun n d => by rw [kv0]; exact hk _ _), att_head _ _ _ _ _ 0 d (by omega) (by show d.val = 0 * 128 + d.val; omega)]
    simp only [slice0_at, Nat.zero_mul, Nat.zero_add]
    exact congrArg₂ attend (funext fun n => congrArg (score _ _) (funext fun d => kv0 x9 n d)) (funext fun n => kv0 x10 n d)
  · rw [HEAD_at _ _ _ _ _ _ hg (fun n d => by rw [kv1]; exact hk _ _), att_head _ _ _ _ _ 1 d (by omega) rfl]
    simp only [slice1_at, Nat.one_mul]
    exact congrArg₂ attend (funext fun n => congrArg (score _ _) (funext fun d => kv1 x9 n d)) (funext fun n => kv1 x10 n d)
  · rw [HEAD_at _ _ _ _ _ _ hg (fun n d => by rw [kv2]; exact hk _ _), att_head _ _ _ _ _ 2 d (by omega) rfl]
    simp only [slice2_at]
    exact congrArg₂ attend (funext fun n => congrArg (score _ _) (funext fun d => kv2 x9 n d)) (funext fun n => kv2 x10 n d)
  · rw [HEAD_at _ _ _ _ _ _ hg (fun n d => by rw [kv3]; exact hk _ _), att_head _ _ _ _ _ 3 d (by omega) rfl]
    simp only [slice3_at]
    exact congrArg₂ attend (funext fun n => congrArg (score _ _) (funext fun d => kv3 x9 n d)) (funext fun n => kv3 x10 n d)
  · rw [hm]
    simp only [hq]
    rfl

end Cert.PostIdeal.Value

end
-- ==== Proof.PostReference.lean ====
/-
  The reference of the layer's second half, stage by stage, read at one index.
-/
module

public import proofs.«01_k».proof.Proof.PostMath
public import proofs.«01_k».proof.Proof.Gen.PostRefIdeal
public import Idealize.ShloMosaic.Lib.Pointwise
public import Idealize.ShloMosaic.Lib.Pipeline.ValueKit

@[expose] public section

set_option maxRecDepth 16384

noncomputable section

namespace Cert.PostRefIdeal.Layer

open Cert.PostRefIdeal Cert.PostRefIdeal.Gen Idealize.ShloMosaic Idealize.ShloMosaic.TcCoe Idealize.SL.Sem
open PostMixer MemoryKv

/-- A group's norm with its half of the gain. -/
def GN (y : FVec Ideal S4x8192x512 .f32) (g : FVec Ideal S512 .f32) : FVec Ideal S4x8192x512 .f32 :=
  mulf (mulf y (broadcastInDim S4x8192x512 ![0, 1, 2] bcast_S4x8192x1_S4x8192x512_0_1_2 (Host.rsqrt (addf (Host.divf (broadcastInDim S4x8192x1 ![0, 1] bcast_S4x8192_S4x8192x1_0_1 (Host.reduceAdd (mulf y y) (constant S_ .f32 0x00000000#32) reducesTo_S4x8192x512_S4x8192_d2 h_S_)) (broadcastInDim S4x8192x1 ![] bcast_S_S4x8192x1 (constant S_ .f32 0x44000000#32))) (broadcastInDim S4x8192x1 ![] bcast_S_S4x8192x1 (constant S_ .f32 0x358637BD#32)))))) (broadcastInDim S4x8192x512 ![0, 1, 2] bcast_S1x1x512_S4x8192x512_0_1_2 (broadcastInDim S1x1x512 ![2] bcast_S512_S1x1x512_2 g))

/-- The first group's norm. -/
def GA (a : FVec Ideal S4x8192x512 .f32) (g : FVec Ideal S1024 .f32) : FVec Ideal S4x8192x512 .f32 :=
  GN a (extractStridedSlice S512 ![0] g slices_S1024_S512_0)

/-- The second group's norm. -/
def GB (bT : FVec Ideal S4x512x8192 .f32) (g : FVec Ideal S1024 .f32) : FVec Ideal S4x8192x512 .f32 :=
  GN (transpose S4x8192x512 [0, 2, 1] bT transposes_S4x512x8192_S4x8192x512_0_2_1) (extractStridedSlice S512 ![512] g slices_S1024_S512_512)

/-- The residual plus the projection of the two groups' norms side by side. -/
def X1 (x : FVec Ideal S4x8192x1024 .f32) (a b : FVec Ideal S4x8192x512 .f32) (w : FVec Ideal S1024x1024 .f32) : FVec Ideal S4x8192x1024 .f32 :=
  addf x (Host.dotGeneral dot_S4x8192x1024_S1024x1024_S4x8192x1024_2_0_01_1_n_n none (concatenate S4x8192x1024 2 [⟨S4x8192x512, a⟩, ⟨S4x8192x512, b⟩] concatenates_S4x8192x512_S4x8192x512_S4x8192x1024_d2) w)

/-- The memory queries. -/
def Q (x : FVec Ideal S4x8192x1024 .f32) (g : FVec Ideal S1024 .f32) (w : FVec Ideal S1024x512 .f32) : FVec Ideal S4x8192x512 .f32 :=
  Host.dotGeneral dot_S4x8192x1024_S1024x512_S4x8192x512_2_0_01_1_n_n none (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) w

/-- The heads' norms. -/
def HN (h : FVec Ideal S4x8192x4x128 .f32) (g : FVec Ideal S128 .f32) : FVec Ideal S4x8192x4x128 .f32 :=
  mulf (mulf h (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf h h) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 g))

/-- The queries by heads, normed. -/
def QN (q : FVec Ideal S4x8192x512 .f32) (g : FVec Ideal S128 .f32) : FVec Ideal S4x8192x4x128 .f32 :=
  HN (shapeCast S4x8192x4x128 q shapeCasts_S4x8192x512_S4x8192x4x128) g

/-- The memory's keys (or values) by heads. -/
def KH (k : FVec Ideal S4x256x512 .bf16) : FVec Ideal S4x256x4x128 .f32 :=
  shapeCast S4x256x4x128 (extf .f32 k bitsLt_bf16_f32) shapeCasts_S4x256x512_S4x256x4x128

/-- The queries' inner products with the memory's keys. -/
def SD (qn : FVec Ideal S4x8192x4x128 .f32) (k : FVec Ideal S4x256x4x128 .f32) : FVec Ideal S4x4x8192x256 .f32 :=
  Host.dotGeneral dot_S4x8192x4x128_S4x256x4x128_S4x4x8192x256_3_3_1_1_02_02 none qn k

/-- The inner products times `z`. -/
def SZ (z : FVec Ideal S_ .f32) (s : FVec Ideal S4x4x8192x256 .f32) : FVec Ideal S4x4x8192x256 .f32 :=
  mulf s (broadcastInDim S4x4x8192x256 ![] bcast_S_S4x4x8192x256 z)

/-- The scaled scores of the queries against the memory's keys. -/
def SC (qn : FVec Ideal S4x8192x4x128 .f32) (k : FVec Ideal S4x256x4x128 .f32) : FVec Ideal S4x4x8192x256 .f32 :=
  SZ (constant S_ .f32 0x3DB504F3#32) (SD qn k)

/-- The largest score of each query, a maximum from `z`. -/
def RM (z : FVec Ideal S_ .f32) (s : FVec Ideal S4x4x8192x256 .f32) : FVec Ideal S4x4x8192 .f32 :=
  Host.reduce FloatOps.maximumf s z reducesTo_S4x4x8192x256_S4x4x8192_d3 h_S_

/-- The larger of `z` and each query's largest score. -/
def MZ (z : FVec Ideal S_ .f32) (R : FVec Ideal S4x4x8192 .f32) : FVec Ideal S4x4x8192 .f32 :=
  maximumf (broadcastInDim S4x4x8192 ![] bcast_S_S4x4x8192 z) R

/-- Each query's largest score. -/
def MX (s : FVec Ideal S4x4x8192x256 .f32) : FVec Ideal S4x4x8192 .f32 :=
  MZ (constant S_ .f32 0xFF800000#32) (RM (constant S_ .f32 0xFF800000#32) s)

/-- The exponentials of the scores less their query's shift. -/
def EX (s : FVec Ideal S4x4x8192x256 .f32) (M : FVec Ideal S4x4x8192 .f32) : FVec Ideal S4x4x8192x256 .f32 :=
  Host.exp (subf s (broadcastInDim S4x4x8192x256 ![0, 1, 2, 3] bcast_S4x4x8192x1_S4x4x8192x256_0_1_2_3 (broadcastInDim S4x4x8192x1 ![0, 1, 2] bcast_S4x4x8192_S4x4x8192x1_0_1_2 M)))

/-- The exponentials divided by their query's sum. -/
def PR (e : FVec Ideal S4x4x8192x256 .f32) : FVec Ideal S4x4x8192x256 .f32 :=
  Host.divf e (broadcastInDim S4x4x8192x256 ![0, 1, 2, 3] bcast_S4x4x8192x1_S4x4x8192x256_0_1_2_3 (broadcastInDim S4x4x8192x1 ![0, 1, 2] bcast_S4x4x8192_S4x4x8192x1_0_1_2 (Host.reduceAdd e (constant S_ .f32 0x00000000#32) reducesTo_S4x4x8192x256_S4x4x8192_d3 h_S_)))

/-- The weights applied to the memory's values, the heads side by side. -/
def OUT (p : FVec Ideal S4x4x8192x256 .f32) (v : FVec Ideal S4x256x4x128 .f32) : FVec Ideal S4x8192x512 .f32 :=
  shapeCast S4x8192x512 (transpose S4x8192x4x128 [0, 3, 1, 2] (Host.dotGeneral dot_S4x256x4x128_S4x4x8192x256_S4x4x128x8192_1_3_3_2_02_01 none v p) transposes_S4x4x128x8192_S4x8192x4x128_0_3_1_2) shapeCasts_S4x8192x4x128_S4x8192x512

/-- The mixed rows plus the projection of what the memory gave. -/
def Y (x : FVec Ideal S4x8192x1024 .f32) (o : FVec Ideal S4x8192x512 .f32) (w : FVec Ideal S512x1024 .f32) : FVec Ideal S4x8192x1024 .f32 :=
  addf x (Host.dotGeneral dot_S4x8192x512_S512x1024_S4x8192x1024_2_0_01_1_n_n none o w)

/-- The attention to the memory as one term over the queries, keys and values. -/
def MEM (qn : FVec Ideal S4x8192x4x128 .f32) (k v : FVec Ideal S4x256x512 .bf16) : FVec Ideal S4x8192x512 .f32 :=
  OUT (PR (EX (SC qn (KH k)) (MX (SC qn (KH k))))) (KH v)

/-- The reference's result as one term over its arguments. -/
def REF (x : FVec Ideal S4x8192x1024 .f32) (a : FVec Ideal S4x8192x512 .f32) (bT : FVec Ideal S4x512x8192 .f32) (g : FVec Ideal S1024 .f32) (w : FVec Ideal S1024x1024 .f32) (gm : FVec Ideal S1024 .f32)
    (wq : FVec Ideal S1024x512 .f32) (gq : FVec Ideal S128 .f32) (k v : FVec Ideal S4x256x512 .bf16) (wo : FVec Ideal S512x1024 .f32) :
    FVec Ideal S4x8192x1024 .f32 :=
  Y (X1 x (GA a g) (GB bT g) w) (MEM (QN (Q (X1 x (GA a g) (GB bT g) w) gm wq) gq) k v) wo

/-- An entry of the first group's norm. -/
theorem GA_at (a : FVec Ideal S4x8192x512 .f32) (g : FVec Ideal S1024 .f32) (b : Fin 4) (r : Fin 8192) (j : Fin 512) :
    GA a g (ix3 b r j) = groupNorm (fun k => a (ix3 b r k)) (fun k => g (ix1 ⟨k.val, by omega⟩)) j := by
  pointwise [GA, GN, groupNorm]

/-- An entry of the second group's norm. -/
theorem GB_at (a : FVec Ideal S4x512x8192 .f32) (g : FVec Ideal S1024 .f32) (b : Fin 4) (r : Fin 8192) (j : Fin 512) :
    GB a g (ix3 b r j) = groupNorm (fun k => a (ix3 b k r)) (fun k => g (ix1 ⟨512 + k.val, by omega⟩)) j := by
  pointwise [GB, GN, groupNorm]

/-- An entry of the mixed rows: the two groups' columns are two sums. -/
theorem X1_at (x : FVec Ideal S4x8192x1024 .f32) (a a' : FVec Ideal S4x8192x512 .f32) (w : FVec Ideal S1024x1024 .f32) (b : Fin 4) (r : Fin 8192) (j : Fin 1024) :
    X1 x a a' w (ix3 b r j) = x (ix3 b r j) + ((∑ k : Fin 512, a (ix3 b r k) * w (ix2 ⟨k.val, by omega⟩ j)) + ∑ k : Fin 512, a' (ix3 b r k) * w (ix2 ⟨512 + k.val, by omega⟩ j)) := by
  have e : X1 x a a' w (ix3 b r j) = x (ix3 b r j) + ∑ k : Fin 1024, concatenate S4x8192x1024 2 [⟨S4x8192x512, a⟩, ⟨S4x8192x512, a'⟩] concatenates_S4x8192x512_S4x8192x512_S4x8192x1024_d2 (ix3 b r k) * w (ix2 k j) := by
    unfold X1
    generalize concatenate S4x8192x1024 2 [⟨S4x8192x512, a⟩, ⟨S4x8192x512, a'⟩] concatenates_S4x8192x512_S4x8192x512_S4x8192x1024_d2 = u
    pointwise []
  rw [e, sum_halves]
  congr 2
  · refine Finset.sum_congr rfl fun k _ => ?_
    congr 1
    pointwise []
  · refine Finset.sum_congr rfl fun k _ => ?_
    congr 1
    pointwise []

/-- An entry of the memory queries. -/
theorem Q_at (x : FVec Ideal S4x8192x1024 .f32) (g : FVec Ideal S1024 .f32) (w : FVec Ideal S1024x512 .f32) (b : Fin 4) (r : Fin 8192) (j : Fin 512) :
    Q x g w (ix3 b r j) = query (fun k => x (ix3 b r k)) (fun k => g (ix1 k)) (fun k => w (ix2 k j)) := by
  pointwise [Q, query, ConvFfn.norm]

/-- An entry of a head's norm. -/
theorem QN_at (q : FVec Ideal S4x8192x512 .f32) (g : FVec Ideal S128 .f32) (b : Fin 4) (r : Fin 8192) (h : Fin 4) (d : Fin 128) :
    QN q g (ix4 b r h d) = headNorm (fun d => q (ix3 b r ⟨h.val * 128 + d.val, by omega⟩)) (fun d => g (ix1 d)) d := by
  pointwise [QN, HN, headNorm]

/-- An entry of a head of the memory. -/
theorem KH_at (k : FVec Ideal S4x256x512 .bf16) (b : Fin 4) (n : Fin 256) (h : Fin 4) (d : Fin 128) :
    KH k (ix4 b n h d) = k (ix3 b n ⟨h.val * 128 + d.val, by omega⟩) := by
  pointwise [KH]

/-- An inner product. -/
theorem SD_at (qn : FVec Ideal S4x8192x4x128 .f32) (k : FVec Ideal S4x256x4x128 .f32) (b h : Fin 4) (r : Fin 8192) (n : Fin 256) :
    SD qn k (ix4 b h r n) = ∑ d : Fin 128, qn (ix4 b r h d) * k (ix4 b n h d) := by
  pointwise [SD]

/-- An inner product, scaled. -/
theorem SZ_at (z : FVec Ideal S_ .f32) (s : FVec Ideal S4x4x8192x256 .f32) (b h : Fin 4) (r : Fin 8192) (n : Fin 256) :
    SZ z s (ix4 b h r n) = s (ix4 b h r n) * z ix0 := by
  pointwise [SZ]

/-- A score. -/
theorem SC_at (qn : FVec Ideal S4x8192x4x128 .f32) (k : FVec Ideal S4x256x4x128 .f32) (b h : Fin 4) (r : Fin 8192) (n : Fin 256) :
    SC qn k (ix4 b h r n) = (∑ d : Fin 128, qn (ix4 b r h d) * k (ix4 b n h d)) * Ideal.ofBits .f32 0x3DB504F3#32 := by
  unfold SC
  rw [SZ_at, SD_at]
  rfl

/-- The largest score, as a maximum from the start `z`. -/
theorem RM_at (z : FVec Ideal S_ .f32) (s : FVec Ideal S4x4x8192x256 .f32) (b h : Fin 4) (r : Fin 8192) :
    RM z s (ix3 b h r) = Finset.univ.fold max (z (Shape.Idx.first h_S_)) fun n : Fin 256 => s (ix4 b h r n) := by
  pointwise [RM]

/-- The larger of the start and a query's largest score. -/
theorem MZ_at (z : FVec Ideal S_ .f32) (R : FVec Ideal S4x4x8192 .f32) (b h : Fin 4) (r : Fin 8192) :
    MZ z R (ix3 b h r) = max (z ix0) (R (ix3 b h r)) := by
  pointwise [MZ]

/-- `-∞`, as the host's rank-0 constant. -/
theorem neg_inf_at (i : S_.Idx) : (constant (F := Ideal) S_ .f32 0xFF800000#32) i = (⊥ : EReal) := neg_inf

/-- A query's largest score. -/
theorem MX_at (s : FVec Ideal S4x4x8192x256 .f32) (b h : Fin 4) (r : Fin 8192) : MX s (ix3 b h r) = top fun n => s (ix4 b h r n) := by
  unfold MX top
  rw [MZ_at, RM_at, neg_inf_at, neg_inf_at, neg_inf]
  exact max_eq_right bot_le

/-- An exponential. -/
theorem EX_at (s : FVec Ideal S4x4x8192x256 .f32) (M : FVec Ideal S4x4x8192 .f32) (b h : Fin 4) (r : Fin 8192) (n : Fin 256) :
    EX s M (ix4 b h r n) = Ideal.exp (s (ix4 b h r n) - M (ix3 b h r)) := by
  pointwise [EX]

/-- A weight. -/
theorem PR_at (e : FVec Ideal S4x4x8192x256 .f32) (b h : Fin 4) (r : Fin 8192) (n : Fin 256) :
    PR e (ix4 b h r n) = Ideal.div (e (ix4 b h r n)) (∑ l : Fin 256, e (ix4 b h r l)) := by
  pointwise [PR]

/-- An entry of what the memory gives: the weighted sum of its column of the values. -/
theorem OUT_at (p : FVec Ideal S4x4x8192x256 .f32) (v : FVec Ideal S4x256x4x128 .f32) (b : Fin 4) (r : Fin 8192) (j : Fin 512) :
    OUT p v (ix3 b r j) = ∑ n : Fin 256, v (ix4 b n ⟨j.val / 128, by omega⟩ ⟨j.val % 128, Nat.mod_lt _ (by omega)⟩) * p (ix4 b ⟨j.val / 128, by omega⟩ r n) := by
  pointwise [OUT]

/-- An entry of the result. -/
theorem Y_at (x : FVec Ideal S4x8192x1024 .f32) (o : FVec Ideal S4x8192x512 .f32) (w : FVec Ideal S512x1024 .f32) (b : Fin 4) (r : Fin 8192) (j : Fin 1024) :
    Y x o w (ix3 b r j) = x (ix3 b r j) + ∑ k : Fin 512, o (ix3 b r k) * w (ix2 k j) := by
  pointwise [Y]

/-- An entry of the attention to the memory, over the scores. -/
theorem MEM_at (qn : FVec Ideal S4x8192x4x128 .f32) (k v : FVec Ideal S4x256x512 .bf16) (b : Fin 4) (r : Fin 8192) (j : Fin 512) :
    MEM qn k v (ix3 b r j) = attend (fun n => SC qn (KH k) (ix4 b ⟨j.val / 128, by omega⟩ r n)) (fun n => v (ix3 b n j)) := by
  have h : ∀ n : Fin 256, KH v (ix4 b n ⟨j.val / 128, by omega⟩ ⟨j.val % 128, Nat.mod_lt _ (by omega)⟩) = v (ix3 b n j) := fun n => by
    rw [KH_at]
    congr 2
    exact Fin.ext (by show j.val / 128 * 128 + j.val % 128 = j.val; omega)
  unfold MEM attend
  rw [OUT_at]
  refine Finset.sum_congr rfl fun n _ => ?_
  rw [h, mul_comm, PR_at]
  simp only [EX_at, MX_at]

/-- The mixed row of sequence `b` and row `r`, in terms of the arguments. -/
def mixedRow (x : FVec Ideal S4x8192x1024 .f32) (a : FVec Ideal S4x8192x512 .f32) (bT : FVec Ideal S4x512x8192 .f32) (g : FVec Ideal S1024 .f32)
    (w : FVec Ideal S1024x1024 .f32) (b : Fin 4) (r : Fin 8192) (j : Fin 1024) : EReal :=
  mixed (x (ix3 b r j)) (fun k => a (ix3 b r k)) (fun k => bT (ix3 b k r)) (fun k => g (ix1 ⟨k.val, by omega⟩)) (fun k => g (ix1 ⟨512 + k.val, by omega⟩))
    (fun k => w (ix2 ⟨k.val, by omega⟩ j)) (fun k => w (ix2 ⟨512 + k.val, by omega⟩ j))

/-- THE REFERENCE AT AN INDEX. -/
theorem ref_at (x : FVec Ideal S4x8192x1024 .f32) (a : FVec Ideal S4x8192x512 .f32) (bT : FVec Ideal S4x512x8192 .f32) (g : FVec Ideal S1024 .f32)
    (w : FVec Ideal S1024x1024 .f32) (gm : FVec Ideal S1024 .f32) (wq : FVec Ideal S1024x512 .f32) (gq : FVec Ideal S128 .f32)
    (k v : FVec Ideal S4x256x512 .bf16) (wo : FVec Ideal S512x1024 .f32) (b : Fin 4) (r : Fin 8192) (j : Fin 1024) :
    REF x a bT g w gm wq gq k v wo (ix3 b r j)
      = layer (mixedRow x a bT g w b r) (fun j => gm (ix1 j)) (fun i j => wq (ix2 i j)) (fun d => gq (ix1 d)) (fun n j => k (ix3 b n j))
          (fun n j => v (ix3 b n j)) (fun i j => wo (ix2 i j)) j := by
  have h1 : ∀ i : Fin 1024, X1 x (GA a g) (GB bT g) w (ix3 b r i) = mixedRow x a bT g w b r i := fun i => by
    rw [X1_at]
    simp only [GA_at, GB_at]
    rfl
  have h2 : ∀ i : Fin 512, Q (X1 x (GA a g) (GB bT g) w) gm wq (ix3 b r i)
      = query (mixedRow x a bT g w b r) (fun j => gm (ix1 j)) (fun k => wq (ix2 k i)) := fun i => by
    rw [Q_at]
    simp only [h1]
  unfold REF layer
  rw [Y_at, h1]
  refine congrArg (mixedRow x a bT g w b r j + ·) (Finset.sum_congr rfl fun i _ => congrArg (· * wo (ix2 i j)) ?_)
  rw [MEM_at]
  refine congrArg (attend · _) (funext fun n => ?_)
  rw [SC_at]
  simp only [QN_at, KH_at, h2]
  rfl

end Cert.PostRefIdeal.Layer

end
-- ==== Proof.PostFinal.lean ====
/-
  The array the kernel of the layer's second half leaves is the reference's result where the memory queries' gain and the
  memory's keys are finite.
-/
module

public import proofs.«01_k».proof.Proof.PostValue
public import proofs.«01_k».proof.Proof.PostReference
public import proofs.«01_k».proof.Proof.MlaFinal
public import proofs.«01_k».proof.Proof.Gen.Pre_post_finite

@[expose] public section

set_option maxRecDepth 16384

noncomputable section

namespace Cert.PostIdeal.Value

open Cert.PostIdeal Cert.PostIdeal.Gen Idealize.ShloMosaic Idealize.ShloMosaic.TcCoe Idealize.SL.Sem
open Idealize.ShloMosaic.Pipeline (Dat)
open PostMixer MemoryKv
open Cert.MlaIdeal.Attn (ofBits_inf real_of_abs_lt)

/-- Where the precondition holds every entry of the memory queries' gain is a real. -/
theorem real_gain (x : FVec Ideal S4x8192x1024 .f32) (a : FVec Ideal S4x8192x512 .f32) (b : FVec Ideal S4x512x8192 .f32) (g : FVec Ideal S1024 .f32)
    (w : FVec Ideal S1024x1024 .f32) (gm : FVec Ideal S1024 .f32) (wq : FVec Ideal S1024x512 .f32) (gq : FVec Ideal S128 .f32)
    (k v : FVec Ideal S4x256x512 .bf16) (wo : FVec Ideal S512x1024 .f32)
    (h : (Cert.Pre_post_finite.fn (F := Ideal) x a b g w gm wq gq k v wo).1 = fun _ => 1#1) (i : S128.Idx) : ∃ r : ℝ, gq i = (r : EReal) := by
  have := congrFun h i
  pointwise [Cert.Pre_post_finite.fn, ofBits_inf] at this
  exact real_of_abs_lt this

/-- Where the precondition holds every memory key is a real. -/
theorem real_keys (x : FVec Ideal S4x8192x1024 .f32) (a : FVec Ideal S4x8192x512 .f32) (b : FVec Ideal S4x512x8192 .f32) (g : FVec Ideal S1024 .f32)
    (w : FVec Ideal S1024x1024 .f32) (gm : FVec Ideal S1024 .f32) (wq : FVec Ideal S1024x512 .f32) (gq : FVec Ideal S128 .f32)
    (k v : FVec Ideal S4x256x512 .bf16) (wo : FVec Ideal S512x1024 .f32)
    (h : (Cert.Pre_post_finite.fn (F := Ideal) x a b g w gm wq gq k v wo).2 = fun _ => 1#1) (i : S4x256x512.Idx) : ∃ r : ℝ, k i = (r : EReal) := by
  have := congrFun h i
  pointwise [Cert.Pre_post_finite.fn, ofBits_inf] at this
  exact real_of_abs_lt this

variable (m : (ℓ : Loc nD τ sig) → Buf (Elt Ideal) ℓ)

/-- The blocks a grid point reads and writes: sequence `t / 16`, row tile `t % 16`. -/
theorem idx : ∀ t : Fin cfg0.N, win0_0.index t = ![t.val / 16, t.val % 16, 0] ∧ win0_1.index t = ![t.val / 16, t.val % 16, 0]
    ∧ win0_2.index t = ![t.val / 16, 0, t.val % 16] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 16, 0, 0]
    ∧ win0_10.index t = ![t.val / 16, 0, 0] ∧ win0_11.index t = ![0, 0] ∧ win0_12.index t = ![t.val / 16, t.val % 16, 0] :=
  (by decide +kernel : ∀ t : Fin grid0.N, _)

/-- There are 64 points. -/
theorem lt_N (t : Fin cfg0.N) : t.val < 64 := lt_of_lt_of_eq t.isLt N_0

/-- The point's sequence. -/
def seq (t : Fin cfg0.N) : Fin 4 := ⟨t.val / 16, by have := lt_N t; omega⟩

/-- Row `r` of the point's tile. -/
def row (t : Fin cfg0.N) (r : Fin 512) : Fin 8192 := ⟨t.val % 16 * 512 + r.val, by omega⟩

/-- The residual rows. -/
theorem blk0 (c : Dev nD) (t : Fin cfg0.N) (r : Fin 512) (j : Fin 1024) :
    iblk m c 0 t (ix3 0 r j) = m ((c : Thread nD τ).loc main_arg0) (ix3 (seq t) (row t r) j) := by
  refine congrArg (m ((c : Thread nD τ).loc main_arg0)) (a₁ := ((View.whole main_arg0).slice (win0_0.rect t)).emb _) ?_
  blk_ext [idx t, seq, row]

/-- The first group's rows. -/
theorem blk1 (c : Dev nD) (t : Fin cfg0.N) (r : Fin 512) (j : Fin 512) :
    iblk m c 1 t (ix3 0 r j) = m ((c : Thread nD τ).loc main_arg1) (ix3 (seq t) (row t r) j) := by
  refine congrArg (m ((c : Thread nD τ).loc main_arg1)) (a₁ := ((View.whole main_arg1).slice (win0_1.rect t)).emb _) ?_
  blk_ext [idx t, seq, row]

/-- The second group's columns. -/
theorem blk2 (c : Dev nD) (t : Fin cfg0.N) (j : Fin 512) (r : Fin 512) :
    iblk m c 2 t (ix3 0 j r) = m ((c : Thread nD τ).loc main_arg2) (ix3 (seq t) j (row t r)) := by
  refine congrArg (m ((c : Thread nD τ).loc main_arg2)) (a₁ := ((View.whole main_arg2).slice (win0_2.rect t)).emb _) ?_
  blk_ext [idx t, seq, row]

/-- The first group's gain. -/
theorem blk3 (c : Dev nD) (t : Fin cfg0.N) (j : Fin 512) :
    iblk m c 3 t (ix2 0 j) = m ((c : Thread nD τ).loc main_arg3) (ix1 ⟨j.val, by omega⟩) := by
  blk_simp [iblk, idx t]
  entry_read
  have ej : ((View.whole main_v1).slice (win0_3.rect t)).emb (ix2 0 j) = ix2 0 j := by blk_ext [idx t]
  rw [ej]
  pointwise []

/-- The second group's gain. -/
theorem blk4 (c : Dev nD) (t : Fin cfg0.N) (j : Fin 512) :
    iblk m c 4 t (ix2 0 j) = m ((c : Thread nD τ).loc main_arg3) (ix1 ⟨512 + j.val, by omega⟩) := by
  blk_simp [iblk, idx t]
  entry_read
  have ej : ((View.whole main_v3).slice (win0_4.rect t)).emb (ix2 0 j) = ix2 0 j := by blk_ext [idx t]
  rw [ej]
  pointwise []

/-- The groups' projection. -/
theorem blk5 (c : Dev nD) (t : Fin cfg0.N) (k j : Fin 1024) :
    iblk m c 5 t (ix2 k j) = m ((c : Thread nD τ).loc main_arg4) (ix2 k j) := by
  blk_simp [iblk, idx t]
  entry_read
  have ej : ((View.whole main_v4).slice (win0_5.rect t)).emb (ix2 k j) = ix2 k j := by blk_ext [idx t]
  rw [ej]
  pointwise []

/-- The mixed rows' gain. -/
theorem blk6 (c : Dev nD) (t : Fin cfg0.N) (j : Fin 1024) :
    iblk m c 6 t (ix2 0 j) = m ((c : Thread nD τ).loc main_arg5) (ix1 j) := by
  blk_simp [iblk, idx t]
  entry_read
  have ej : ((View.whole main_v5).slice (win0_6.rect t)).emb (ix2 0 j) = ix2 0 j := by blk_ext [idx t]
  rw [ej]
  pointwise []

/-- The memory queries' weights. -/
theorem blk7 (c : Dev nD) (t : Fin cfg0.N) (k : Fin 1024) (j : Fin 512) :
    iblk m c 7 t (ix2 k j) = m ((c : Thread nD τ).loc main_arg6) (ix2 k j) := by
  blk_simp [iblk, idx t]
  entry_read
  have ej : ((View.whole main_v6).slice (win0_7.rect t)).emb (ix2 k j) = ix2 k j := by blk_ext [idx t]
  rw [ej]
  pointwise []

/-- The memory queries' gain. -/
theorem blk8 (c : Dev nD) (t : Fin cfg0.N) (d : Fin 128) :
    iblk m c 8 t (ix2 0 d) = m ((c : Thread nD τ).loc main_arg7) (ix1 d) := by
  blk_simp [iblk, idx t]
  entry_read
  have ej : ((View.whole main_v7).slice (win0_8.rect t)).emb (ix2 0 d) = ix2 0 d := by blk_ext [idx t]
  rw [ej]
  pointwise []

/-- The sequence's memory keys. -/
theorem blk9 (c : Dev nD) (t : Fin cfg0.N) (n : Fin 256) (j : Fin 512) :
    iblk m c 9 t (ix3 0 n j) = m ((c : Thread nD τ).loc main_arg8) (ix3 (seq t) n j) := by
  refine congrArg (m ((c : Thread nD τ).loc main_arg8)) (a₁ := ((View.whole main_arg8).slice (win0_9.rect t)).emb _) ?_
  blk_ext [idx t, seq]

/-- The sequence's memory values. -/
theorem blk10 (c : Dev nD) (t : Fin cfg0.N) (n : Fin 256) (j : Fin 512) :
    iblk m c 10 t (ix3 0 n j) = m ((c : Thread nD τ).loc main_arg9) (ix3 (seq t) n j) := by
  refine congrArg (m ((c : Thread nD τ).loc main_arg9)) (a₁ := ((View.whole main_arg9).slice (win0_10.rect t)).emb _) ?_
  blk_ext [idx t, seq]

/-- The memory's projection. -/
theorem blk11 (c : Dev nD) (t : Fin cfg0.N) (k : Fin 512) (j : Fin 1024) :
    iblk m c 11 t (ix2 k j) = m ((c : Thread nD τ).loc main_arg10) (ix2 k j) := by
  blk_simp [iblk, idx t]
  entry_read
  have ej : ((View.whole main_v8).slice (win0_11.rect t)).emb (ix2 k j) = ix2 k j := by blk_ext [idx t]
  rw [ej]
  pointwise []

/-- The block's mixed rows are the reference's. -/
theorem blockRow_eq (c : Dev nD) (t : Fin cfg0.N) (r : Fin 512) :
    blockRow (iblk m c 0 t) (iblk m c 1 t) (iblk m c 2 t) (iblk m c 3 t) (iblk m c 4 t) (iblk m c 5 t) r
      = Cert.PostRefIdeal.Layer.mixedRow (m ((c : Thread nD τ).loc main_arg0)) (m ((c : Thread nD τ).loc main_arg1)) (m ((c : Thread nD τ).loc main_arg2))
          (m ((c : Thread nD τ).loc main_arg3)) (m ((c : Thread nD τ).loc main_arg4)) (seq t) (row t r) := by
  funext j
  unfold blockRow Cert.PostRefIdeal.Layer.mixedRow
  congr 1
  · exact blk0 m c t r j
  · exact funext fun k => blk1 m c t r k
  · exact funext fun k => blk2 m c t k r
  · exact funext fun k => blk3 m c t k
  · exact funext fun k => blk4 m c t k
  · exact funext fun k => blk5 m c t _ j
  · exact funext fun k => blk5 m c t _ j

/-- THE RESULT ARRAY: where the memory queries' gain and the memory keys are reals, the array the kernel leaves is the
    reference's. -/
theorem final (c : Dev nD) (hg : ∀ i : S128.Idx, ∃ r : ℝ, (m ((c : Thread nD τ).loc main_arg7)) i = (r : EReal))
    (hk : ∀ i : S4x256x512.Idx, ∃ r : ℝ, (m ((c : Thread nD τ).loc main_arg8)) i = (r : EReal)) :
    (dats m 0 c).arrAt 12 (cfgs 0).N
      = Cert.PostRefIdeal.Layer.REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (dats m 0 c).arrAt_eq_of_covers 12 _ (by decide +kernel) fun t hf y => ?_
  blk_simp
  obtain ⟨a, r, q, rfl⟩ : ∃ (a : Fin 1) (r : Fin 512) (q : Fin 1024), y = ix3 a r q := ⟨y 0, y 1, y 2, by blk_ext []⟩
  have ej : ((View.whole main_v9).slice (win0_12.rect t)).emb (ix3 a r q) = ix3 (seq t) (row t r) q := by
    blk_ext [idx t, seq, row]
  rw [ej, after0_12]
  refine (out12_at _ _ _ _ _ _ _ _ _ _ _ _ a r q (fun d => ?_) (fun n d => ?_)).trans ?_
  · obtain ⟨s, hs⟩ := hg (ix1 d)
    exact ⟨s, (blk8 m c t d).trans hs⟩
  · obtain ⟨s, hs⟩ := hk (ix3 (seq t) n d)
    exact ⟨s, (blk9 m c t n d).trans hs⟩
  · refine Eq.trans ?_ (Cert.PostRefIdeal.Layer.ref_at _ _ _ _ _ _ _ _ _ _ _ (seq t) (row t r) q).symm
    congr 1
    · exact blockRow_eq m c t r
    · exact funext fun k => blk6 m c t k
    · exact funext fun k => funext fun j => blk7 m c t k j
    · exact funext fun d => blk8 m c t d
    · exact funext fun n => funext fun j => blk9 m c t n j
    · exact funext fun n => funext fun j => blk10 m c t n j
    · exact funext fun k => funext fun j => blk11 m c t k j

end Cert.PostIdeal.Value

end
-- ==== Proof.PostRun.lean ====
/-
  The reference's run: what its operations leave in the result, stage by stage.
-/
module

public import proofs.«01_k».proof.Proof.PostReference
public import Idealize.ShloMosaic.Lib.StableHlo.Run
public import Idealize.ShloMosaic.Lib.StableHlo.RunHlo
public import Idealize.ShloMosaic.Lib.StableHlo.RunRead
public import Idealize.ShloMosaic.Lib.Pipeline.Frame
public import Idealize.ShloMosaic.Lib.Claim

@[expose] public section

set_option maxRecDepth 16384

noncomputable section

namespace Cert.PostRefIdeal.Layer

open Cert.PostRefIdeal Cert.PostRefIdeal.Gen Idealize.ShloMosaic Idealize.ShloMosaic.TcCoe Idealize.SL.Sem Idealize.ShloMosaic.StableHlo

variable {F : FTy → Type} [FloatOps F]

/-- The operations that compute the first group's norm. -/
abbrev ops0 : List (HloOp τ sig (Elt F)) :=
  [ StableHlo.unary main_arg3 main_v0 ((extractStridedSlice S512 ![0] · slices_S1024_S512_0) : (⟨S1024, .f32⟩ : BufTy).Contents (Elt F) → (⟨S512, .f32⟩ : BufTy).Contents (Elt F)),
    StableHlo.binary main_arg1 main_arg1 main_v1 (mulf : (⟨S4x8192x512, .f32⟩ : BufTy).Contents (Elt F) → (⟨S4x8192x512, .f32⟩ : BufTy).Contents (Elt F) → (⟨S4x8192x512, .f32⟩ : BufTy).Contents (Elt F)),
    StableHlo.nullary main_cst (constant S_ .f32 0x00000000#32),
    StableHlo.binary main_v1 main_cst main_v2 ((fun x v => Host.reduceAdd x v reducesTo_S4x8192x512_S4x8192_d2 h_S_) : (⟨S4x8192x512, .f32⟩ : BufTy).Contents (Elt F) → (⟨S_, .f32⟩ : BufTy).Contents (Elt F) → (⟨S4x8192, .f32⟩ : BufTy).Contents (Elt F)),
    StableHlo.unary main_v2 main_v3 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_0 (constant S_ .f32 0x44000000#32),
    StableHlo.unary main_cst_0 main_v4 (broadcastInDim S4x8192x1 ![] bcast_S_S4x8192x1 : (⟨S_, .f32⟩ : BufTy).Contents (Elt F) → (⟨S4x8192x1, .f32⟩ : BufTy).Contents (Elt F)),
    StableHlo.binary main_v3 main_v4 main_v5 (Host.divf : (⟨S4x8192x1, .f32⟩ : BufTy).Contents (Elt F) → (⟨S4x8192x1, .f32⟩ : BufTy).Contents (Elt F) → (⟨S4x8192x1, .f32⟩ : BufTy).Contents (Elt F)),
    StableHlo.nullary main_cst_1 (constant S_ .f32 0x358637BD#32),
    StableHlo.unary main_cst_1 main_v6 (broadcastInDim S4x8192x1 ![] bcast_S_S4x8192x1 : (⟨S_, .f32⟩ : BufTy).Contents (Elt F) → (⟨S4x8192x1, .f32⟩ : BufTy).Contents (Elt F)),
    StableHlo.binary main_v5 main_v6 main_v7 (addf : (⟨S4x8192x1, .f32⟩ : BufTy).Contents (Elt F) → (⟨S4x8192x1, .f32⟩ : BufTy).Contents (Elt F) → (⟨S4x8192x1, .f32⟩ : BufTy).Contents (Elt F)),
    StableHlo.unary main_v7 main_v8 (Host.rsqrt : (⟨S4x8192x1, .f32⟩ : BufTy).Contents (Elt F) → (⟨S4x8192x1, .f32⟩ : BufTy).Contents (Elt F)),
    StableHlo.unary main_v8 main_v9 (broadcastInDim S4x8192x512 ![0, 1, 2] bcast_S4x8192x1_S4x8192x512_0_1_2 : (⟨S4x8192x1, .f32⟩ : BufTy).Contents (Elt F) → (⟨S4x8192x512, .f32⟩ : BufTy).Contents (Elt F)),
    StableHlo.binary main_arg1 main_v9 main_v10 (mulf : (⟨S4x8192x512, .f32⟩ : BufTy).Contents (Elt F) → (⟨S4x8192x512, .f32⟩ : BufTy).Contents (Elt F) → (⟨S4x8192x512, .f32⟩ : BufTy).Contents (Elt F)),
    StableHlo.unary main_v0 main_v11 (broadcastInDim S1x1x512 ![2] bcast_S512_S1x1x512_2 : (⟨S512, .f32⟩ : BufTy).Contents (Elt F) → (⟨S1x1x512, .f32⟩ : BufTy).Contents (Elt F)),
    StableHlo.unary main_v11 main_v12 (broadcastInDim S4x8192x512 ![0, 1, 2] bcast_S1x1x512_S4x8192x512_0_1_2 : (⟨S1x1x512, .f32⟩ : BufTy).Contents (Elt F) → (⟨S4x8192x512, .f32⟩ : BufTy).Contents (Elt F)),
    StableHlo.binary main_v10 main_v12 main_v13 (mulf : (⟨S4x8192x512, .f32⟩ : BufTy).Contents (Elt F) → (⟨S4x8192x512, .f32⟩ : BufTy).Contents (Elt F) → (⟨S4x8192x512, .f32⟩ : BufTy).Contents (Elt F)) ]

/-- The operations that compute the second group's norm. -/
abbrev ops1 : List (HloOp τ sig (Elt F)) :=
  [ StableHlo.unary main_arg2 main_v14 ((transpose S4x8192x512 [0, 2, 1] · transposes_S4x512x8192_S4x8192x512_0_2_1) : (⟨S4x512x8192, .f32⟩ : BufTy).Contents (Elt F) → (⟨S4x8192x512, .f32⟩ : BufTy).Contents (Elt F)),
    StableHlo.unary main_arg3 main_v15 ((extractStridedSlice S512 ![512] · slices_S1024_S512_512) : (⟨S1024, .f32⟩ : BufTy).Contents (Elt F) → (⟨S512, .f32⟩ : BufTy).Contents (Elt F)),
    StableHlo.binary main_v14 main_v14 main_v16 (mulf : (⟨S4x8192x512, .f32⟩ : BufTy).Contents (Elt F) → (⟨S4x8192x512, .f32⟩ : BufTy).Contents (Elt F) → (⟨S4x8192x512, .f32⟩ : BufTy).Contents (Elt F)),
    StableHlo.nullary main_cst_2 (constant S_ .f32 0x00000000#32),
    StableHlo.binary main_v16 main_cst_2 main_v17 ((fun x v => Host.reduceAdd x v reducesTo_S4x8192x512_S4x8192_d2 h_S_) : (⟨S4x8192x512, .f32⟩ : BufTy).Contents (Elt F) → (⟨S_, .f32⟩ : BufTy).Contents (Elt F) → (⟨S4x8192, .f32⟩ : BufTy).Contents (Elt F)),
    StableHlo.unary main_v17 main_v18 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_3 (constant S_ .f32 0x44000000#32),
    StableHlo.unary main_cst_3 main_v19 (broadcastInDim S4x8192x1 ![] bcast_S_S4x8192x1 : (⟨S_, .f32⟩ : BufTy).Contents (Elt F) → (⟨S4x8192x1, .f32⟩ : BufTy).Contents (Elt F)),
    StableHlo.binary main_v18 main_v19 main_v20 (Host.divf : (⟨S4x8192x1, .f32⟩ : BufTy).Contents (Elt F) → (⟨S4x8192x1, .f32⟩ : BufTy).Contents (Elt F) → (⟨S4x8192x1, .f32⟩ : BufTy).Contents (Elt F)),
    StableHlo.nullary main_cst_4 (constant S_ .f32 0x358637BD#32),
    StableHlo.unary main_cst_4 main_v21 (broadcastInDim S4x8192x1 ![] bcast_S_S4x8192x1 : (⟨S_, .f32⟩ : BufTy).Contents (Elt F) → (⟨S4x8192x1, .f32⟩ : BufTy).Contents (Elt F)),
    StableHlo.binary main_v20 main_v21 main_v22 (addf : (⟨S4x8192x1, .f32⟩ : BufTy).Contents (Elt F) → (⟨S4x8192x1, .f32⟩ : BufTy).Contents (Elt F) → (⟨S4x8192x1, .f32⟩ : BufTy).Contents (Elt F)),
    StableHlo.unary main_v22 main_v23 (Host.rsqrt : (⟨S4x8192x1, .f32⟩ : BufTy).Contents (Elt F) → (⟨S4x8192x1, .f32⟩ : BufTy).Contents (Elt F)),
    StableHlo.unary main_v23 main_v24 (broadcastInDim S4x8192x512 ![0, 1, 2] bcast_S4x8192x1_S4x8192x512_0_1_2 : (⟨S4x8192x1, .f32⟩ : BufTy).Contents (Elt F) → (⟨S4x8192x512, .f32⟩ : BufTy).Contents (Elt F)),
    StableHlo.binary main_v14 main_v24 main_v25 (mulf : (⟨S4x8192x512, .f32⟩ : BufTy).Contents (Elt F) → (⟨S4x8192x512, .f32⟩ : BufTy).Contents (Elt F) → (⟨S4x8192x512, .f32⟩ : BufTy).Contents (Elt F)),
    StableHlo.unary main_v15 main_v26 (broadcastInDim S1x1x512 ![2] bcast_S512_S1x1x512_2 : (⟨S512, .f32⟩ : BufTy).Contents (Elt F) → (⟨S1x1x512, .f32⟩ : BufTy).Contents (Elt F)),
    StableHlo.unary main_v26 main_v27 (broadcastInDim S4x8192x512 ![0, 1, 2] bcast_S1x1x512_S4x8192x512_0_1_2 : (⟨S1x1x512, .f32⟩ : BufTy).Contents (Elt F) → (⟨S4x8192x512, .f32⟩ : BufTy).Contents (Elt F)),
    StableHlo.binary main_v25 main_v27 main_v28 (mulf : (⟨S4x8192x512, .f32⟩ : BufTy).Contents (Elt F) → (⟨S4x8192x512, .f32⟩ : BufTy).Contents (Elt F) → (⟨S4x8192x512, .f32⟩ : BufTy).Contents (Elt F)) ]

/-- The operations that compute the mixed rows. -/
abbrev ops2 : List (HloOp τ sig (Elt F)) :=
  [ StableHlo.binary main_v13 main_v28 main_v29 ((fun a b => concatenate S4x8192x1024 2 [⟨S4x8192x512, a⟩, ⟨S4x8192x512, b⟩] concatenates_S4x8192x512_S4x8192x512_S4x8192x1024_d2) : (⟨S4x8192x512, .f32⟩ : BufTy).Contents (Elt F) → (⟨S4x8192x512, .f32⟩ : BufTy).Contents (Elt F) → (⟨S4x8192x1024, .f32⟩ : BufTy).Contents (Elt F)),
    StableHlo.binary main_v29 main_arg4 main_v30 ((fun l r => Host.dotGeneral dot_S4x8192x1024_S1024x1024_S4x8192x1024_2_0_01_1_n_n none l r) : (⟨S4x8192x1024, .f32⟩ : BufTy).Contents (Elt F) → (⟨S1024x1024, .f32⟩ : BufTy).Contents (Elt F) → (⟨S4x8192x1024, .f32⟩ : BufTy).Contents (Elt F)),
    StableHlo.binary main_arg0 main_v30 main_v31 (addf : (⟨S4x8192x1024, .f32⟩ : BufTy).Contents (Elt F) → (⟨S4x8192x1024, .f32⟩ : BufTy).Contents (Elt F) → (⟨S4x8192x1024, .f32⟩ : BufTy).Contents (Elt F)) ]

/-- The operations that compute the memory queries. -/
abbrev ops3 : List (HloOp τ sig (Elt F)) :=
  [ StableHlo.binary main_v31 main_v31 main_v32 (mulf : (⟨S4x8192x1024, .f32⟩ : BufTy).Contents (Elt F) → (⟨S4x8192x1024, .f32⟩ : BufTy).Contents (Elt F) → (⟨S4x8192x1024, .f32⟩ : BufTy).Contents (Elt F)),
    StableHlo.nullary main_cst_5 (constant S_ .f32 0x00000000#32),
    StableHlo.binary main_v32 main_cst_5 main_v33 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    StableHlo.unary main_v33 main_v34 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_6 (constant S_ .f32 0x44800000#32),
    StableHlo.unary main_cst_6 main_v35 (broadcastInDim S4x8192x1 ![] bcast_S_S4x8192x1 : (⟨S_, .f32⟩ : BufTy).Contents (Elt F) → (⟨S4x8192x1, .f32⟩ : BufTy).Contents (Elt F)),
    StableHlo.binary main_v34 main_v35 main_v36 (Host.divf : (⟨S4x8192x1, .f32⟩ : BufTy).Contents (Elt F) → (⟨S4x8192x1, .f32⟩ : BufTy).Contents (Elt F) → (⟨S4x8192x1, .f32⟩ : BufTy).Contents (Elt F)),
    StableHlo.nullary main_cst_7 (constant S_ .f32 0x358637BD#32),
    StableHlo.unary main_cst_7 main_v37 (broadcastInDim S4x8192x1 ![] bcast_S_S4x8192x1 : (⟨S_, .f32⟩ : BufTy).Contents (Elt F) → (⟨S4x8192x1, .f32⟩ : BufTy).Contents (Elt F)),
    StableHlo.binary main_v36 main_v37 main_v38 (addf : (⟨S4x8192x1, .f32⟩ : BufTy).Contents (Elt F) → (⟨S4x8192x1, .f32⟩ : BufTy).Contents (Elt F) → (⟨S4x8192x1, .f32⟩ : BufTy).Contents (Elt F)),
    StableHlo.unary main_v38 main_v39 (Host.rsqrt : (⟨S4x8192x1, .f32⟩ : BufTy).Contents (Elt F) → (⟨S4x8192x1, .f32⟩ : BufTy).Contents (Elt F)),
    StableHlo.unary main_v39 main_v40 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v31 main_v40 main_v41 (mulf : (⟨S4x8192x1024, .f32⟩ : BufTy).Contents (Elt F) → (⟨S4x8192x1024, .f32⟩ : BufTy).Contents (Elt F) → (⟨S4x8192x1024, .f32⟩ : BufTy).Contents (Elt F)),
    StableHlo.unary main_arg5 main_v42 (broadcastInDim S1x1x1024 ![2] bcast_S1024_S1x1x1024_2 : (⟨S1024, .f32⟩ : BufTy).Contents (Elt F) → (⟨S1x1x1024, .f32⟩ : BufTy).Contents (Elt F)),
    StableHlo.unary main_v42 main_v43 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v41 main_v43 main_v44 (mulf : (⟨S4x8192x1024, .f32⟩ : BufTy).Contents (Elt F) → (⟨S4x8192x1024, .f32⟩ : BufTy).Contents (Elt F) → (⟨S4x8192x1024, .f32⟩ : BufTy).Contents (Elt F)),
    StableHlo.binary main_v44 main_arg6 main_v45 ((fun l r => Host.dotGeneral dot_S4x8192x1024_S1024x512_S4x8192x512_2_0_01_1_n_n none l r) : (⟨S4x8192x1024, .f32⟩ : BufTy).Contents (Elt F) → (⟨S1024x512, .f32⟩ : BufTy).Contents (Elt F) → (⟨S4x8192x512, .f32⟩ : BufTy).Contents (Elt F)) ]

/-- The operations that compute the queries' heads, normed. -/
abbrev ops4 : List (HloOp τ sig (Elt F)) :=
  [ StableHlo.reshape main_v45 main_v46 (rfl : (.f32 : EltTy) = .f32) shapeCasts_S4x8192x512_S4x8192x4x128,
    StableHlo.binary main_v46 main_v46 main_v47 (mulf : (⟨S4x8192x4x128, .f32⟩ : BufTy).Contents (Elt F) → (⟨S4x8192x4x128, .f32⟩ : BufTy).Contents (Elt F) → (⟨S4x8192x4x128, .f32⟩ : BufTy).Contents (Elt F)),
    StableHlo.nullary main_cst_8 (constant S_ .f32 0x00000000#32),
    StableHlo.binary main_v47 main_cst_8 main_v48 ((fun x v => Host.reduceAdd x v reducesTo_S4x8192x4x128_S4x8192x4_d3 h_S_) : (⟨S4x8192x4x128, .f32⟩ : BufTy).Contents (Elt F) → (⟨S_, .f32⟩ : BufTy).Contents (Elt F) → (⟨S4x8192x4, .f32⟩ : BufTy).Contents (Elt F)),
    StableHlo.unary main_v48 main_v49 (broadcastInDim S4x8192x4x1 ![0, 1, 2] bcast_S4x8192x4_S4x8192x4x1_0_1_2 : (⟨S4x8192x4, .f32⟩ : BufTy).Contents (Elt F) → (⟨S4x8192x4x1, .f32⟩ : BufTy).Contents (Elt F)),
    StableHlo.nullary main_cst_9 (constant S_ .f32 0x43000000#32),
    StableHlo.unary main_cst_9 main_v50 (broadcastInDim S4x8192x4x1 ![] bcast_S_S4x8192x4x1 : (⟨S_, .f32⟩ : BufTy).Contents (Elt F) → (⟨S4x8192x4x1, .f32⟩ : BufTy).Contents (Elt F)),
    StableHlo.binary main_v49 main_v50 main_v51 (Host.divf : (⟨S4x8192x4x1, .f32⟩ : BufTy).Contents (Elt F) → (⟨S4x8192x4x1, .f32⟩ : BufTy).Contents (Elt F) → (⟨S4x8192x4x1, .f32⟩ : BufTy).Contents (Elt F)),
    StableHlo.nullary main_cst_10 (constant S_ .f32 0x358637BD#32),
    StableHlo.unary main_cst_10 main_v52 (broadcastInDim S4x8192x4x1 ![] bcast_S_S4x8192x4x1 : (⟨S_, .f32⟩ : BufTy).Contents (Elt F) → (⟨S4x8192x4x1, .f32⟩ : BufTy).Contents (Elt F)),
    StableHlo.binary main_v51 main_v52 main_v53 (addf : (⟨S4x8192x4x1, .f32⟩ : BufTy).Contents (Elt F) → (⟨S4x8192x4x1, .f32⟩ : BufTy).Contents (Elt F) → (⟨S4x8192x4x1, .f32⟩ : BufTy).Contents (Elt F)),
    StableHlo.unary main_v53 main_v54 (Host.rsqrt : (⟨S4x8192x4x1, .f32⟩ : BufTy).Contents (Elt F) → (⟨S4x8192x4x1, .f32⟩ : BufTy).Contents (Elt F)),
    StableHlo.unary main_v54 main_v55 (broadcastInDim S4x8192x4x128 ![0, 1, 2, 3] bcast_S4x8192x4x1_S4x8192x4x128_0_1_2_3 : (⟨S4x8192x4x1, .f32⟩ : BufTy).Contents (Elt F) → (⟨S4x8192x4x128, .f32⟩ : BufTy).Contents (Elt F)),
    StableHlo.binary main_v46 main_v55 main_v56 (mulf : (⟨S4x8192x4x128, .f32⟩ : BufTy).Contents (Elt F) → (⟨S4x8192x4x128, .f32⟩ : BufTy).Contents (Elt F) → (⟨S4x8192x4x128, .f32⟩ : BufTy).Contents (Elt F)),
    StableHlo.unary main_arg7 main_v57 (broadcastInDim S1x1x1x128 ![3] bcast_S128_S1x1x1x128_3 : (⟨S128, .f32⟩ : BufTy).Contents (Elt F) → (⟨S1x1x1x128, .f32⟩ : BufTy).Contents (Elt F)),
    StableHlo.unary main_v57 main_v58 (broadcastInDim S4x8192x4x128 ![0, 1, 2, 3] bcast_S1x1x1x128_S4x8192x4x128_0_1_2_3 : (⟨S1x1x1x128, .f32⟩ : BufTy).Contents (Elt F) → (⟨S4x8192x4x128, .f32⟩ : BufTy).Contents (Elt F)),
    StableHlo.binary main_v56 main_v58 main_v59 (mulf : (⟨S4x8192x4x128, .f32⟩ : BufTy).Contents (Elt F) → (⟨S4x8192x4x128, .f32⟩ : BufTy).Contents (Elt F) → (⟨S4x8192x4x128, .f32⟩ : BufTy).Contents (Elt F)) ]

/-- The operations that compute the memory's keys and values by heads. -/
abbrev ops5 : List (HloOp τ sig (Elt F)) :=
  [ StableHlo.unary main_arg8 main_v60 ((extf .f32 · bitsLt_bf16_f32) : (⟨S4x256x512, .bf16⟩ : BufTy).Contents (Elt F) → (⟨S4x256x512, .f32⟩ : BufTy).Contents (Elt F)),
    StableHlo.reshape main_v60 main_v61 (rfl : (.f32 : EltTy) = .f32) shapeCasts_S4x256x512_S4x256x4x128,
    StableHlo.unary main_arg9 main_v62 ((extf .f32 · bitsLt_bf16_f32) : (⟨S4x256x512, .bf16⟩ : BufTy).Contents (Elt F) → (⟨S4x256x512, .f32⟩ : BufTy).Contents (Elt F)),
    StableHlo.reshape main_v62 main_v63 (rfl : (.f32 : EltTy) = .f32) shapeCasts_S4x256x512_S4x256x4x128 ]

/-- The operations that compute the scores. -/
abbrev ops6 : List (HloOp τ sig (Elt F)) :=
  [ StableHlo.binary main_v59 main_v61 main_v64 ((fun l r => Host.dotGeneral dot_S4x8192x4x128_S4x256x4x128_S4x4x8192x256_3_3_1_1_02_02 none l r) : (⟨S4x8192x4x128, .f32⟩ : BufTy).Contents (Elt F) → (⟨S4x256x4x128, .f32⟩ : BufTy).Contents (Elt F) → (⟨S4x4x8192x256, .f32⟩ : BufTy).Contents (Elt F)),
    StableHlo.nullary main_cst_11 (constant S_ .f32 0x3DB504F3#32),
    StableHlo.unary main_cst_11 main_v65 (broadcastInDim S4x4x8192x256 ![] bcast_S_S4x4x8192x256 : (⟨S_, .f32⟩ : BufTy).Contents (Elt F) → (⟨S4x4x8192x256, .f32⟩ : BufTy).Contents (Elt F)),
    StableHlo.binary main_v64 main_v65 main_v66 (mulf : (⟨S4x4x8192x256, .f32⟩ : BufTy).Contents (Elt F) → (⟨S4x4x8192x256, .f32⟩ : BufTy).Contents (Elt F) → (⟨S4x4x8192x256, .f32⟩ : BufTy).Contents (Elt F)) ]

/-- The operations that compute each query's largest score. -/
abbrev ops7 : List (HloOp τ sig (Elt F)) :=
  [ StableHlo.nullary main_cst_12 (constant S_ .f32 0xFF800000#32),
    StableHlo.binary main_v66 main_cst_12 main_v67 ((fun x v => Host.reduce FloatOps.maximumf x v reducesTo_S4x4x8192x256_S4x4x8192_d3 h_S_) : (⟨S4x4x8192x256, .f32⟩ : BufTy).Contents (Elt F) → (⟨S_, .f32⟩ : BufTy).Contents (Elt F) → (⟨S4x4x8192, .f32⟩ : BufTy).Contents (Elt F)),
    StableHlo.nullary main_cst_13 (constant S_ .f32 0xFF800000#32),
    StableHlo.unary main_cst_13 main_v68 (broadcastInDim S4x4x8192 ![] bcast_S_S4x4x8192 : (⟨S_, .f32⟩ : BufTy).Contents (Elt F) → (⟨S4x4x8192, .f32⟩ : BufTy).Contents (Elt F)),
    StableHlo.binary main_v68 main_v67 main_v69 (maximumf : (⟨S4x4x8192, .f32⟩ : BufTy).Contents (Elt F) → (⟨S4x4x8192, .f32⟩ : BufTy).Contents (Elt F) → (⟨S4x4x8192, .f32⟩ : BufTy).Contents (Elt F)) ]

/-- The operations that compute the exponentials. -/
abbrev ops8 : List (HloOp τ sig (Elt F)) :=
  [ StableHlo.unary main_v69 main_v70 (broadcastInDim S4x4x8192x1 ![0, 1, 2] bcast_S4x4x8192_S4x4x8192x1_0_1_2 : (⟨S4x4x8192, .f32⟩ : BufTy).Contents (Elt F) → (⟨S4x4x8192x1, .f32⟩ : BufTy).Contents (Elt F)),
    StableHlo.unary main_v70 main_v71 (broadcastInDim S4x4x8192x256 ![0, 1, 2, 3] bcast_S4x4x8192x1_S4x4x8192x256_0_1_2_3 : (⟨S4x4x8192x1, .f32⟩ : BufTy).Contents (Elt F) → (⟨S4x4x8192x256, .f32⟩ : BufTy).Contents (Elt F)),
    StableHlo.binary main_v66 main_v71 main_v72 (subf : (⟨S4x4x8192x256, .f32⟩ : BufTy).Contents (Elt F) → (⟨S4x4x8192x256, .f32⟩ : BufTy).Contents (Elt F) → (⟨S4x4x8192x256, .f32⟩ : BufTy).Contents (Elt F)),
    StableHlo.unary main_v72 main_v73 (Host.exp : (⟨S4x4x8192x256, .f32⟩ : BufTy).Contents (Elt F) → (⟨S4x4x8192x256, .f32⟩ : BufTy).Contents (Elt F)) ]

/-- The operations that compute the weights. -/
abbrev ops9 : List (HloOp τ sig (Elt F)) :=
  [ StableHlo.nullary main_cst_14 (constant S_ .f32 0x00000000#32),
    StableHlo.binary main_v73 main_cst_14 main_v74 ((fun x v => Host.reduceAdd x v reducesTo_S4x4x8192x256_S4x4x8192_d3 h_S_) : (⟨S4x4x8192x256, .f32⟩ : BufTy).Contents (Elt F) → (⟨S_, .f32⟩ : BufTy).Contents (Elt F) → (⟨S4x4x8192, .f32⟩ : BufTy).Contents (Elt F)),
    StableHlo.unary main_v74 main_v75 (broadcastInDim S4x4x8192x1 ![0, 1, 2] bcast_S4x4x8192_S4x4x8192x1_0_1_2 : (⟨S4x4x8192, .f32⟩ : BufTy).Contents (Elt F) → (⟨S4x4x8192x1, .f32⟩ : BufTy).Contents (Elt F)),
    StableHlo.unary main_v75 main_v76 (broadcastInDim S4x4x8192x256 ![0, 1, 2, 3] bcast_S4x4x8192x1_S4x4x8192x256_0_1_2_3 : (⟨S4x4x8192x1, .f32⟩ : BufTy).Contents (Elt F) → (⟨S4x4x8192x256, .f32⟩ : BufTy).Contents (Elt F)),
    StableHlo.binary main_v73 main_v76 main_v77 (Host.divf : (⟨S4x4x8192x256, .f32⟩ : BufTy).Contents (Elt F) → (⟨S4x4x8192x256, .f32⟩ : BufTy).Contents (Elt F) → (⟨S4x4x8192x256, .f32⟩ : BufTy).Contents (Elt F)) ]

/-- The operations that compute what the memory gives. -/
abbrev ops10 : List (HloOp τ sig (Elt F)) :=
  [ StableHlo.binary main_v63 main_v77 main_v78 ((fun l r => Host.dotGeneral dot_S4x256x4x128_S4x4x8192x256_S4x4x128x8192_1_3_3_2_02_01 none l r) : (⟨S4x256x4x128, .f32⟩ : BufTy).Contents (Elt F) → (⟨S4x4x8192x256, .f32⟩ : BufTy).Contents (Elt F) → (⟨S4x4x128x8192, .f32⟩ : BufTy).Contents (Elt F)),
    StableHlo.unary main_v78 main_v79 ((transpose S4x8192x4x128 [0, 3, 1, 2] · transposes_S4x4x128x8192_S4x8192x4x128_0_3_1_2) : (⟨S4x4x128x8192, .f32⟩ : BufTy).Contents (Elt F) → (⟨S4x8192x4x128, .f32⟩ : BufTy).Contents (Elt F)),
    StableHlo.reshape main_v79 main_v80 (rfl : (.f32 : EltTy) = .f32) shapeCasts_S4x8192x4x128_S4x8192x512 ]

/-- The operations that compute the result. -/
abbrev ops11 : List (HloOp τ sig (Elt F)) :=
  [ StableHlo.binary main_v80 main_arg10 main_v81 ((fun l r => Host.dotGeneral dot_S4x8192x512_S512x1024_S4x8192x1024_2_0_01_1_n_n none l r) : (⟨S4x8192x512, .f32⟩ : BufTy).Contents (Elt F) → (⟨S512x1024, .f32⟩ : BufTy).Contents (Elt F) → (⟨S4x8192x1024, .f32⟩ : BufTy).Contents (Elt F)),
    StableHlo.binary main_v31 main_v81 main_v82 (addf : (⟨S4x8192x1024, .f32⟩ : BufTy).Contents (Elt F) → (⟨S4x8192x1024, .f32⟩ : BufTy).Contents (Elt F) → (⟨S4x8192x1024, .f32⟩ : BufTy).Contents (Elt F)) ]

/-- The result from the stage that computes the result on. -/
theorem from11 (W : Valuation τ sig (Elt Ideal)) :
    after (ops11) W (Proc.devRef .tc main_v82) = Y (W (Proc.devRef .tc main_v31)) (W (Proc.devRef .tc main_v80)) (W (Proc.devRef .tc main_arg10)) := by
  after_reads_simp
  rfl

/-- The result from the stage that computes what the memory gives on. -/
theorem from10 (W : Valuation τ sig (Elt Ideal)) :
    after (ops10 ++ ops11) W (Proc.devRef .tc main_v82) = Y (W (Proc.devRef .tc main_v31)) (OUT (W (Proc.devRef .tc main_v77)) (W (Proc.devRef .tc main_v63))) (W (Proc.devRef .tc main_arg10)) := by
  rw [after_append, from11]
  after_reads_simp
  rfl

/-- The result from the stage that computes the weights on. -/
theorem from9 (W : Valuation τ sig (Elt Ideal)) :
    after (ops9 ++ (ops10 ++ ops11)) W (Proc.devRef .tc main_v82) = Y (W (Proc.devRef .tc main_v31)) (OUT (PR (W (Proc.devRef .tc main_v73))) (W (Proc.devRef .tc main_v63))) (W (Proc.devRef .tc main_arg10)) := by
  rw [after_append, from10]
  after_reads_simp
  rfl

/-- The result from the stage that computes the exponentials on. -/
theorem from8 (W : Valuation τ sig (Elt Ideal)) :
    after (ops8 ++ (ops9 ++ (ops10 ++ ops11))) W (Proc.devRef .tc main_v82) = Y (W (Proc.devRef .tc main_v31)) (OUT (PR (EX (W (Proc.devRef .tc main_v66)) (W (Proc.devRef .tc main_v69)))) (W (Proc.devRef .tc main_v63))) (W (Proc.devRef .tc main_arg10)) := by
  rw [after_append, from9]
  after_reads_simp
  rfl

/-- The result from the stage that computes each query's largest score on. -/
theorem from7 (W : Valuation τ sig (Elt Ideal)) :
    after (ops7 ++ (ops8 ++ (ops9 ++ (ops10 ++ ops11)))) W (Proc.devRef .tc main_v82) = Y (W (Proc.devRef .tc main_v31)) (OUT (PR (EX (W (Proc.devRef .tc main_v66)) (MX (W (Proc.devRef .tc main_v66))))) (W (Proc.devRef .tc main_v63))) (W (Proc.devRef .tc main_arg10)) := by
  rw [after_append, from8]
  after_reads_simp
  rfl

/-- The result from the stage that computes the scores on. -/
theorem from6 (W : Valuation τ sig (Elt Ideal)) :
    after (ops6 ++ (ops7 ++ (ops8 ++ (ops9 ++ (ops10 ++ ops11))))) W (Proc.devRef .tc main_v82) = Y (W (Proc.devRef .tc main_v31)) (OUT (PR (EX (SC (W (Proc.devRef .tc main_v59)) (W (Proc.devRef .tc main_v61))) (MX (SC (W (Proc.devRef .tc main_v59)) (W (Proc.devRef .tc main_v61)))))) (W (Proc.devRef .tc main_v63))) (W (Proc.devRef .tc main_arg10)) := by
  rw [after_append, from7]
  after_reads_simp
  rfl

/-- The result from the stage that computes the memory's keys and values by heads on. -/
theorem from5 (W : Valuation τ sig (Elt Ideal)) :
    after (ops5 ++ (ops6 ++ (ops7 ++ (ops8 ++ (ops9 ++ (ops10 ++ ops11)))))) W (Proc.devRef .tc main_v82) = Y (W (Proc.devRef .tc main_v31)) (MEM (W (Proc.devRef .tc main_v59)) (W (Proc.devRef .tc main_arg8)) (W (Proc.devRef .tc main_arg9))) (W (Proc.devRef .tc main_arg10)) := by
  rw [after_append, from6]
  after_reads_simp
  rfl

/-- The result from the stage that computes the queries' heads, normed on. -/
theorem from4 (W : Valuation τ sig (Elt Ideal)) :
    after (ops4 ++ (ops5 ++ (ops6 ++ (ops7 ++ (ops8 ++ (ops9 ++ (ops10 ++ ops11))))))) W (Proc.devRef .tc main_v82) = Y (W (Proc.devRef .tc main_v31)) (MEM (QN (W (Proc.devRef .tc main_v45)) (W (Proc.devRef .tc main_arg7))) (W (Proc.devRef .tc main_arg8)) (W (Proc.devRef .tc main_arg9))) (W (Proc.devRef .tc main_arg10)) := by
  rw [after_append, from5]
  after_reads_simp
  rfl

/-- The result from the stage that computes the memory queries on. -/
theorem from3 (W : Valuation τ sig (Elt Ideal)) :
    after (ops3 ++ (ops4 ++ (ops5 ++ (ops6 ++ (ops7 ++ (ops8 ++ (ops9 ++ (ops10 ++ ops11)))))))) W (Proc.devRef .tc main_v82) = Y (W (Proc.devRef .tc main_v31)) (MEM (QN (Q (W (Proc.devRef .tc main_v31)) (W (Proc.devRef .tc main_arg5)) (W (Proc.devRef .tc main_arg6))) (W (Proc.devRef .tc main_arg7))) (W (Proc.devRef .tc main_arg8)) (W (Proc.devRef .tc main_arg9))) (W (Proc.devRef .tc main_arg10)) := by
  rw [after_append, from4]
  after_reads_simp
  rfl

/-- The result from the stage that computes the mixed rows on. -/
theorem from2 (W : Valuation τ sig (Elt Ideal)) :
    after (ops2 ++ (ops3 ++ (ops4 ++ (ops5 ++ (ops6 ++ (ops7 ++ (ops8 ++ (ops9 ++ (ops10 ++ ops11))))))))) W (Proc.devRef .tc main_v82) = Y (X1 (W (Proc.devRef .tc main_arg0)) (W (Proc.devRef .tc main_v13)) (W (Proc.devRef .tc main_v28)) (W (Proc.devRef .tc main_arg4))) (MEM (QN (Q (X1 (W (Proc.devRef .tc main_arg0)) (W (Proc.devRef .tc main_v13)) (W (Proc.devRef .tc main_v28)) (W (Proc.devRef .tc main_arg4))) (W (Proc.devRef .tc main_arg5)) (W (Proc.devRef .tc main_arg6))) (W (Proc.devRef .tc main_arg7))) (W (Proc.devRef .tc main_arg8)) (W (Proc.devRef .tc main_arg9))) (W (Proc.devRef .tc main_arg10)) := by
  rw [after_append, from3]
  after_reads_simp
  rfl

/-- The result from the stage that computes the second group's norm on. -/
theorem from1 (W : Valuation τ sig (Elt Ideal)) :
    after (ops1 ++ (ops2 ++ (ops3 ++ (ops4 ++ (ops5 ++ (ops6 ++ (ops7 ++ (ops8 ++ (ops9 ++ (ops10 ++ ops11)))))))))) W (Proc.devRef .tc main_v82) = Y (X1 (W (Proc.devRef .tc main_arg0)) (W (Proc.devRef .tc main_v13)) (GB (W (Proc.devRef .tc main_arg2)) (W (Proc.devRef .tc main_arg3))) (W (Proc.devRef .tc main_arg4))) (MEM (QN (Q (X1 (W (Proc.devRef .tc main_arg0)) (W (Proc.devRef .tc main_v13)) (GB (W (Proc.devRef .tc main_arg2)) (W (Proc.devRef .tc main_arg3))) (W (Proc.devRef .tc main_arg4))) (W (Proc.devRef .tc main_arg5)) (W (Proc.devRef .tc main_arg6))) (W (Proc.devRef .tc main_arg7))) (W (Proc.devRef .tc main_arg8)) (W (Proc.devRef .tc main_arg9))) (W (Proc.devRef .tc main_arg10)) := by
  rw [after_append, from2]
  after_reads_simp
  rfl

/-- The result from the start. -/
theorem from0 (W : Valuation τ sig (Elt Ideal)) :
    after (ops0 ++ (ops1 ++ (ops2 ++ (ops3 ++ (ops4 ++ (ops5 ++ (ops6 ++ (ops7 ++ (ops8 ++ (ops9 ++ (ops10 ++ ops11))))))))))) W (Proc.devRef .tc main_v82) = REF (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [after_append, from1]
  after_reads_simp
  rfl

/-- The buffers the operations write, in order. -/
abbrev written : List (Ref sig .tc) :=
  [main_v0, main_v1, main_cst, main_v2, main_v3, main_cst_0, main_v4, main_v5, main_cst_1, main_v6, main_v7, main_v8, main_v9, main_v10, main_v11, main_v12, main_v13, main_v14, main_v15, main_v16, main_cst_2, main_v17, main_v18, main_cst_3, main_v19, main_v20, main_cst_4, main_v21, main_v22, main_v23, main_v24, main_v25, main_v26, main_v27, main_v28, main_v29, main_v30, main_v31, main_v32, main_cst_5, main_v33, main_v34, main_cst_6, main_v35, main_v36, main_cst_7, main_v37, main_v38, main_v39, main_v40, main_v41, main_v42, main_v43, main_v44, main_v45, main_v46, main_v47, main_cst_8, main_v48, main_v49, main_cst_9, main_v50, main_v51, main_cst_10, main_v52, main_v53, main_v54, main_v55, main_v56, main_v57, main_v58, main_v59, main_v60, main_v61, main_v62, main_v63, main_v64, main_cst_11, main_v65, main_v66, main_cst_12, main_v67, main_cst_13, main_v68, main_v69, main_v70, main_v71, main_v72, main_v73, main_cst_14, main_v74, main_v75, main_v76, main_v77, main_v78, main_v79, main_v80, main_v81, main_v82]

/-- A buffer no operation writes keeps its contents. -/
theorem kept (W : Valuation τ sig (Elt Ideal)) (r : Ref sig .tc) (h : r ∉ written) :
    after (ops0 ++ (ops1 ++ (ops2 ++ (ops3 ++ (ops4 ++ (ops5 ++ (ops6 ++ (ops7 ++ (ops8 ++ (ops9 ++ (ops10 ++ ops11))))))))))) W (Proc.devRef .tc r) = W (Proc.devRef .tc r) :=
  after_of_writes_sub (W := written) _ W (forall_writes_sub_of_map rfl) h

set_option maxHeartbeats 3200000 in
/-- THE RUN: the reference ends with its result at `REF` of the arguments, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine θ_run_mono (run_hlo (ops := ops0 ++ (ops1 ++ (ops2 ++ (ops3 ++ (ops4 ++ (ops5 ++ (ops6 ++ (ops7 ++ (ops8 ++ (ops9 ++ (ops10 ++ ops11))))))))))) _ _ (fun _ => rfl) (by decide) (by decide) (by simp)
      (by intro _ h; (repeat (cases h with | head => rfl | tail _ h => ?_)); exact nomatch h) m ρ) fun r hr c => ?_
  exact ⟨(hr c main_v82).trans (from0 _), (hr c main_arg0).trans (kept _ main_arg0 (by decide)), (hr c main_arg1).trans (kept _ main_arg1 (by decide)), (hr c main_arg2).trans (kept _ main_arg2 (by decide)), (hr c main_arg3).trans (kept _ main_arg3 (by decide)), (hr c main_arg4).trans (kept _ main_arg4 (by decide)), (hr c main_arg5).trans (kept _ main_arg5 (by decide)), (hr c main_arg6).trans (kept _ main_arg6 (by decide)), (hr c main_arg7).trans (kept _ main_arg7 (by decide)), (hr c main_arg8).trans (kept _ main_arg8 (by decide)), (hr c main_arg9).trans (kept _ main_arg9 (by decide)), (hr c main_arg10).trans (kept _ main_arg10 (by decide))⟩

end Cert.PostRefIdeal.Layer

end
-- ==== Proof.PostClaims.lean ====
/- The claims about the layer's second half: its frames, and its value claim assembled from the kernel's final array
   (`PostFinal`) and the reference's run (`PostRun`). -/
module

public import proofs.«01_k».proof.Defs
public import proofs.«01_k».proof.Proof.PostFinal
public import proofs.«01_k».proof.Proof.PostRun
public import proofs.«01_k».proof.Proof.Gen.Post.Frame
public import proofs.«01_k».proof.Proof.Gen.PostIdeal.Frame
public import Idealize.ShloMosaic.Lib.Claim
public import Idealize.ShloMosaic.Lib.Quiescent

@[expose] public section

set_option maxRecDepth 16384

noncomputable section

namespace Cert.Proof

open Idealize.ShloMosaic Idealize.SL.Sem Cert.Post

/-- The kernel of the layer's second half, as written, leaves its arguments as they were and every semaphore at zero. -/
theorem frame_Post : Cert.quiescent_Post := fun m ρ _ => Cert.Post.Gen.frame m ρ

/-- The same of the kernel read at the extended reals. -/
theorem frame_PostIdeal : Cert.quiescent_PostIdeal := fun m ρ _ => Cert.PostIdeal.Gen.frame m ρ

/-- The same where the memory queries' gain and the memory keys are finite. -/
theorem frame_PostIdeal_finite : Cert.quiescent_PostIdeal_pre_post_finite := fun m ρ _ => Cert.PostIdeal.Gen.frame m ρ

set_option maxHeartbeats 6400000 in
/-- The reference leaves its arguments as they were and every semaphore at zero. -/
theorem frame_PostRefIdeal : Cert.quiescent_PostRefIdeal := by
  intro m g _
  hlo_run
  · exact fun _ => ⟨trivial, trivial, trivial, trivial, trivial, trivial, trivial, trivial, trivial, trivial, trivial⟩
  · exact sem_eq_zero_of_no_sems (by decide) _

/-- The same where the memory queries' gain and the memory keys are finite. -/
theorem frame_PostRefIdeal_finite : Cert.quiescent_PostRefIdeal_pre_post_finite :=
  fun m g _ => frame_PostRefIdeal m g trivial

/-- At finite memory gain and memory keys the kernel's result is the reference's, entry by entry. -/
theorem algebraic_Post : Cert.algebraic_PostIdeal_PostRefIdeal_pre_post_finite := by
  pair_intro
  · run_from Cert.PostIdeal.Gen.run_main m g
  · run_from Cert.PostRefIdeal.Layer.run m' g'
    exact (Cert.PostIdeal.Value.final m c (Cert.PostIdeal.Value.real_gain _ _ _ _ _ _ _ _ _ _ _ (hpre c).1)
      (Cert.PostIdeal.Value.real_keys _ _ _ _ _ _ _ _ _ _ _ (hpre c).2)).symm

end Cert.Proof

end
-- ==== Proof.MixMath.lean ====
/-
  The mathematics of the mixer's input: heads of 64 columns normed two at a time, and the latent row's norm.
-/
module

public import proofs.«01_k».proof.Proof.MemKvReference

@[expose] public section

set_option maxRecDepth 16384

noncomputable section

namespace MixerIn

open Idealize.ShloMosaic

/-- An entry of the root-mean-square norm of one head's 64 entries `x` with gain `g`. -/
def headNorm (x g : Fin 64 → EReal) (d : Fin 64) : EReal :=
  x d * Ideal.rsqrt (Ideal.div (∑ k : Fin 64, x k * x k) (Ideal.ofBits .f32 0x42800000#32) + Ideal.ofBits .f32 0x358637BD#32) * g d

/-- An entry of the root-mean-square norm of the latent row `x` with gain `g`. -/
def latNorm (x g : Fin 256 → EReal) (j : Fin 256) : EReal :=
  x j * Ideal.rsqrt (Ideal.div (∑ k : Fin 256, x k * x k) (Ideal.ofBits .f32 0x43800000#32) + Ideal.ofBits .f32 0x358637BD#32) * g j

/-- An entry of a latent value: the latent row's norm times column `w` of the weights. -/
def value (x g w : Fin 256 → EReal) : EReal := ∑ k : Fin 256, latNorm x g k * w k

/-- Column `c` of 512 columns `z`, normed among the columns of its head. -/
def headed (z : Fin 512 → EReal) (g : Fin 64 → EReal) (c : Fin 512) : EReal :=
  headNorm (fun d => z ⟨c.val / 64 * 64 + d.val, by omega⟩) g ⟨c.val % 64, Nat.mod_lt _ (by omega)⟩

/-- An entry of two heads' 128 columns `x` normed together: the sum of squares is over the columns of the entry's own
    half, and the scale `s` is taken into the gain. -/
def pairNorm (x g : Fin 128 → EReal) (s : EReal) (d : Fin 128) : EReal :=
  x d * Ideal.rsqrt ((if d.val < 64 then ∑ k : Fin 128, (if k.val < 64 then x k * x k else 0) else ∑ k : Fin 128, (if k.val < 64 then 0 else x k * x k))
    * Ideal.ofBits .f32 0x3C800000#32 + Ideal.ofBits .f32 0x358637BD#32) * (g d * s)

/-- Dividing by 64 is multiplying by the literal that stands for its inverse. -/
theorem div_64 (x : EReal) : Ideal.div x (Ideal.ofBits .f32 0x42800000#32) = x * Ideal.ofBits .f32 0x3C800000#32 := by
  have e : Ideal.ofBits .f32 0x42800000#32 = ((64 : ℝ) : EReal) := by
    simp [Ideal.ofBits, Ideal.ieee]
    rw [← EReal.coe_mul]
    norm_num
  have e' : Ideal.ofBits .f32 0x3C800000#32 = ((1 / 64 : ℝ) : EReal) := by
    simp [Ideal.ofBits, Ideal.ieee]
    rw [← EReal.coe_mul]
    norm_num
  rw [e, e', Ideal.div_coe (by norm_num)]

/-- The literal one is one. -/
theorem lit_one : Ideal.ofBits .f32 0x3F800000#32 = 1 := by
  simp [Ideal.ofBits, Ideal.ieee]
  rw [← EReal.coe_mul, ← EReal.coe_one]
  norm_num

/-- A sum over 128 columns is the sum over the first 64 plus the sum over the last 64. -/
theorem sum_pair (f : Fin 128 → EReal) :
    ∑ k : Fin 128, f k = (∑ k : Fin 64, f ⟨k.val, by omega⟩) + ∑ k : Fin 64, f ⟨64 + k.val, by omega⟩ :=
  Fin.sum_univ_add (a := 64) (b := 64) f

/-- Two heads normed together are each head normed among its own columns. -/
theorem pairNorm_eq (z : Fin 512 → EReal) (g : Fin 64 → EReal) (s : EReal) (p : ℕ) (hp : p < 4) (d : Fin 128) :
    pairNorm (fun d => z ⟨p * 128 + d.val, by omega⟩) (fun d => g ⟨d.val % 64, Nat.mod_lt _ (by omega)⟩) s d
      = headed z g ⟨p * 128 + d.val, by omega⟩ * s := by
  have em : (⟨(p * 128 + d.val) % 64, Nat.mod_lt _ (by omega)⟩ : Fin 64) = ⟨d.val % 64, Nat.mod_lt _ (by omega)⟩ := Fin.ext (by show (p * 128 + d.val) % 64 = d.val % 64; omega)
  have ed : (p * 128 + d.val) / 64 * 64 + (p * 128 + d.val) % 64 = p * 128 + d.val := by omega
  unfold headed headNorm pairNorm
  simp only [ed, em, div_64]
  rw [← mul_assoc]
  congr 6
  have lt : ∀ k : Fin 64, k.val < 64 := fun k => k.isLt
  have nlt : ∀ k : Fin 64, ¬ 64 + k.val < 64 := fun k => by omega
  split
  · have h : (p * 128 + d.val) / 64 * 64 = p * 128 := by omega
    rw [sum_pair]
    simp only [lt, nlt, if_true, if_false, Finset.sum_const_zero, add_zero, h]
  · have h : (p * 128 + d.val) / 64 * 64 = p * 128 + 64 := by omega
    rw [sum_pair]
    simp only [lt, nlt, if_true, if_false, Finset.sum_const_zero, zero_add, h, Nat.add_assoc]

end MixerIn

end
-- ==== Proof.MixPayloads.lean ====
/-
  What one grid point of the mixer's input kernel computes, entry by entry.
-/
module

public import proofs.«01_k».proof.Proof.MixMath
public import proofs.«01_k».proof.Proof.Gen.MixIdeal.Frame
public import Idealize.ShloMosaic.Lib.Claim

@[expose] public section

set_option maxRecDepth 16384

noncomputable section

namespace Cert.MixIdeal.Value

open Cert.MixIdeal Cert.MixIdeal.Gen Idealize.ShloMosaic Idealize.ShloMosaic.TcCoe Idealize.SL.Sem
open MixerIn MemoryKv

/-- Two heads' columns `x` normed together under the lanes' mask `m`, with gain `g` times `s`, as stored. -/
def SEG (x : FVec Ideal S512x128 .f32) (m : IVec S512x128 1) (g : FVec Ideal S1x128 .f32) (s : BitVec 32) : FVec Ideal S1x512x128 .bf16 :=
  shapeCast S1x512x128 (truncf .bf16 (mulf (mulf x (rsqrt (addf (mulf (select m
    (broadcastTo S512x128 (shapeCast S512x1 (shapeCast S512x1 (multiReduction .add [1] S512 (select m (mulf x x) (broadcast S512x128 (Scalar.ofBits .f32 0x00000000#32))) 0x00000000#32 reduces_S512x128_S512 (.inl rfl) rfl) shapeCasts_S512_S512x1) shapeCasts_S512x1_S512x1) broadcasts_S512x1_S512x128)
    (broadcastTo S512x128 (shapeCast S512x1 (shapeCast S512x1 (multiReduction .add [1] S512 (select m (broadcast S512x128 (Scalar.ofBits .f32 0x00000000#32)) (mulf x x)) 0x00000000#32 reduces_S512x128_S512 (.inl rfl) rfl) shapeCasts_S512_S512x1) shapeCasts_S512x1_S512x1) broadcasts_S512x1_S512x128))
    (broadcast S512x128 (Scalar.ofBits .f32 0x3C800000#32))) (broadcast S512x128 (Scalar.ofBits .f32 0x358637BD#32)))))
    (broadcastTo S512x128 (mulf (shapeCast S1x128 g shapeCasts_S1x128_S1x128) (broadcast S1x128 (Scalar.ofBits .f32 s))) broadcasts_S1x128_S512x128)) bitsLt_bf16_f32) shapeCasts_S512x128_S1x512x128

/-- The lanes' mask: a lane of the first head. -/
theorem mask_at (r : Fin 512) (d : Fin 128) : k0_pay4 (ix2 r d) = if d.val < 64 then 1#1 else 0#1 := by
  have h : ∀ d : Fin 128, IntOp.cmpi .slt (BitVec.ofNat 32 d.val) 64#32 = if d.val < 64 then 1#1 else 0#1 := by decide +kernel
  rw [← h d]
  pointwise [k0_pay4]

/-- An entry of two heads normed together, for a mask that is one on the first 64 lanes. -/
theorem SEG_at (x : FVec Ideal S512x128 .f32) (m : IVec S512x128 1) (g : FVec Ideal S1x128 .f32) (s : BitVec 32)
    (hm : ∀ (r : Fin 512) (d : Fin 128), m (ix2 r d) = if d.val < 64 then 1#1 else 0#1) (a : Fin 1) (r : Fin 512) (d : Fin 128) :
    SEG x m g s (ix3 a r d) = pairNorm (fun d => x (ix2 r d)) (fun d => g (ix2 0 d)) (Ideal.ofBits .f32 s) d := by
  pointwise [SEG, pairNorm, hm]
  by_cases h : d.val < 64
  · rw [if_pos h, if_pos h]
    rfl
  · rw [if_neg h, if_neg h]
    rfl

/-- An entry of two heads normed together is the entry of its own head's norm, scaled. -/
theorem seg_at (x : FVec Ideal S512x128 .f32) (g : FVec Ideal S1x128 .f32) (s : BitVec 32) (r : Fin 512) (Z : Fin 512 → EReal) (G : Fin 64 → EReal)
    (p : ℕ) (hp : p < 4) (hx : ∀ d : Fin 128, x (ix2 r d) = Z ⟨p * 128 + d.val, by omega⟩)
    (hg : ∀ d : Fin 128, g (ix2 0 d) = G ⟨d.val % 64, Nat.mod_lt _ (by omega)⟩) (a : Fin 1) (d : Fin 128) :
    SEG x k0_pay4 g s (ix3 a r d) = headed Z G ⟨p * 128 + d.val, by omega⟩ * Ideal.ofBits .f32 s := by
  rw [SEG_at x _ g s mask_at, ← pairNorm_eq Z G _ p hp d]
  simp only [hx, hg]

/-- An entry of the block's projection to the neighbourhood heads. -/
theorem pay3_at (x : FVec Ideal S1x512x1024 .f32) (g : FVec Ideal S1x1024 .f32) (w : FVec Ideal S1024x1536 .bf16) (r : Fin 512) (j : Fin 1536) :
    k0_pay3 (F := Ideal) x g w (ix2 r j) = proj (fun k => x (ix3 0 r k)) (fun k => g (ix2 0 k)) (fun k => w (ix2 k j)) := by
  pointwise [k0_pay3, k0_pay2, proj, ConvFfn.norm]

/-- An entry of the block's projection to the latent columns. -/
theorem pay30_at (x : FVec Ideal S1x512x1024 .f32) (g : FVec Ideal S1x1024 .f32) (w : FVec Ideal S1024x896 .bf16) (r : Fin 512) (j : Fin 896) :
    k0_pay30 (F := Ideal) (k0_pay2 x g) w (ix2 r j) = proj (fun k => x (ix3 0 r k)) (fun k => g (ix2 0 k)) (fun k => w (ix2 k j)) := by
  pointwise [k0_pay30, k0_pay2, proj, ConvFfn.norm]

/-- An entry of the block's latent values. -/
theorem pay42_at (l : FVec Ideal S512x896 .f32) (g : FVec Ideal S1x256 .f32) (w : FVec Ideal S256x512 .bf16) (r j : Fin 512) :
    k0_pay42 (F := Ideal) l g w (ix2 r j) = value (fun k => l (ix2 r ⟨384 + k.val, by omega⟩)) (fun k => g (ix2 0 k)) (fun k => w (ix2 k j)) := by
  pointwise [k0_pay42, k0_pay36, value, latNorm]

/-- The neighbourhood values, as stored. -/
theorem pay29_at (z : FVec Ideal S512x1536 .f32) (a : Fin 1) (r j : Fin 512) :
    k0_pay29 (F := Ideal) z (ix3 a r j) = z (ix2 r ⟨1024 + j.val, by omega⟩) := by
  pointwise [k0_pay29]

/-- The queries' columns. -/
theorem pay5_at (x : FVec Ideal S1x512x1024 .f32) (g : FVec Ideal S1x1024 .f32) (w : FVec Ideal S1024x1536 .bf16) (r j : Fin 512) :
    k0_pay5 (F := Ideal) x g w (ix2 r j) = k0_pay3 (F := Ideal) x g w (ix2 r ⟨j.val, by omega⟩) := by
  unfold k0_pay5
  generalize k0_pay3 (F := Ideal) x g w = z
  pointwise []

/-- The keys' columns. -/
theorem pay17_at (z : FVec Ideal S512x1536 .f32) (r j : Fin 512) :
    k0_pay17 (F := Ideal) z (ix2 r j) = z (ix2 r ⟨512 + j.val, by omega⟩) := by
  pointwise [k0_pay17]

/-- A 512-row block's columns 0 to 127. -/
theorem cols0 (z : FVec Ideal S512x512 .f32) (r : Fin 512) (d : Fin 128) :
    extractStridedSlice S512x128 ![0, 0] z slices_S512x512_o0_0_S512x128 (ix2 r d) = z (ix2 r ⟨0 * 128 + d.val, by omega⟩) := by
  pointwise []

/-- A 512-row block's columns 128 to 255. -/
theorem cols1 (z : FVec Ideal S512x512 .f32) (r : Fin 512) (d : Fin 128) :
    extractStridedSlice S512x128 ![0, 128] z slices_S512x512_o0_128_S512x128 (ix2 r d) = z (ix2 r ⟨1 * 128 + d.val, by omega⟩) := by
  pointwise []

/-- A 512-row block's columns 256 to 383. -/
theorem cols2 (z : FVec Ideal S512x512 .f32) (r : Fin 512) (d : Fin 128) :
    extractStridedSlice S512x128 ![0, 256] z slices_S512x512_o0_256_S512x128 (ix2 r d) = z (ix2 r ⟨2 * 128 + d.val, by omega⟩) := by
  pointwise []

/-- A 512-row block's columns 384 to 511. -/
theorem cols3 (z : FVec Ideal S512x512 .f32) (r : Fin 512) (d : Fin 128) :
    extractStridedSlice S512x128 ![0, 384] z slices_S512x512_o0_384_S512x128 (ix2 r d) = z (ix2 r ⟨3 * 128 + d.val, by omega⟩) := by
  pointwise []

end Cert.MixIdeal.Value

end
-- ==== Proof.MixValue.lean ====
/-
  What one grid point of the mixer's input kernel leaves in the buffers of its four results, entry by entry.
-/
module

public import proofs.«01_k».proof.Proof.MixPayloads

@[expose] public section

set_option maxRecDepth 16384

noncomputable section

namespace Cert.MixIdeal.Value

open Cert.MixIdeal Cert.MixIdeal.Gen Idealize.ShloMosaic Idealize.ShloMosaic.TcCoe Idealize.SL.Sem
open MixerIn MemoryKv

/-- A block of normed heads: each column of `z` normed among those of its head with gain `G`, times the literal `s`. -/
def headBlock (z : FVec Ideal S512x512 .f32) (G : Fin 64 → EReal) (s : BitVec 32) : S1x512x512.Idx → EReal := fun y =>
  headed (fun j => z (ix2 (y 1) j)) G (y 2) * Ideal.ofBits .f32 s

/-- A block of values, transposed by heads in chunks of 256 rows. -/
def valueBlock (v : FVec Ideal S512x512 .f32) : S1x8x2x64x256.Idx → EReal := fun y =>
  v (ix2 ⟨(y 2).val * 256 + (y 4).val, by have := (y 2).isLt; have := (y 4).isLt; simp at *; omega⟩ ⟨(y 1).val * 64 + (y 3).val, by have := (y 1).isLt; have := (y 3).isLt; simp at *; omega⟩)

/-- An entry of a block of normalised heads. -/
theorem headBlock_at (z : FVec Ideal S512x512 .f32) (G : Fin 64 → EReal) (s : BitVec 32) (a : Fin 1) (r q : Fin 512) :
    headBlock z G s (ix3 a r q) = headed (fun j => z (ix2 r j)) G q * Ideal.ofBits .f32 s := rfl

/-- An entry of a block of values. -/
theorem valueBlock_at (v : FVec Ideal S512x512 .f32) (a : Fin 1) (h : Fin 8) (n : Fin 2) (d : Fin 64) (s : Fin 256) :
    valueBlock v (ix5 a h n d s) = v (ix2 ⟨n.val * 256 + s.val, by omega⟩ ⟨h.val * 64 + d.val, by omega⟩) := rfl

variable (x0 : Vec Ideal S1x512x1024 .f32) (x1 : Vec Ideal S1x1024 .f32) (x2 : Vec Ideal S1024x1536 .bf16) (x3 : Vec Ideal S1024x896 .bf16)
  (x4 x5 : Vec Ideal S384x1024 .bf16) (x6 : Vec Ideal S256x1024 .bf16) (x7 : Vec Ideal S256x512 .bf16) (x8 x9 : Vec Ideal S1x512 .f32)
  (x10 : Vec Ideal S1x384 .f32) (x11 : Vec Ideal S1x256 .f32) (x12 x13 x14 x15 : Vec Ideal S1x128 .f32) (x16 x17 : Vec Ideal S512x128 .f32)

/-- The queries' columns of the block's projection. -/
theorem pay103_eq : k0_pay103 (F := Ideal) x0 x1 x2 x3 x4 x5 x6 x7 x8 x9 x10 x11 x12 x13 x14 x15 x16 x17 = k0_pay5 (F := Ideal) x0 x1 x2 := by
  unfold k0_pay103
  rw [View.ld_unit_zero (S := S1x512x1024) (by decide), View.ld_unit_zero (S := S1x1024) (by decide), View.ld_unit_zero (S := S1024x1536) (by decide)]

/-- The block's projection to the neighbourhood heads. -/
theorem pay101_eq : k0_pay101 (F := Ideal) x0 x1 x2 x3 x4 x5 x6 x7 x8 x9 x10 x11 x12 x13 x14 x15 x16 x17 = k0_pay3 (F := Ideal) x0 x1 x2 := by
  unfold k0_pay101
  rw [View.ld_unit_zero (S := S1x512x1024) (by decide), View.ld_unit_zero (S := S1x1024) (by decide), View.ld_unit_zero (S := S1024x1536) (by decide)]

/-- The block's latent values. -/
theorem pay115_eq : k0_pay115 (F := Ideal) x0 x1 x2 x3 x4 x5 x6 x7 x8 x9 x10 x11 x12 x13 x14 x15 x16 x17
    = k0_pay42 (F := Ideal) (k0_pay30 (k0_pay2 x0 x1) x3) x11 x7 := by
  unfold k0_pay115 k0_pay105 k0_pay100
  rw [View.ld_unit_zero (S := S1x512x1024) (by decide), View.ld_unit_zero (S := S1x1024) (by decide), View.ld_unit_zero (S := S1024x896) (by decide),
    View.ld_unit_zero (S := S1x256) (by decide), View.ld_unit_zero (S := S256x512) (by decide)]

/-- The four stores of a block of normed heads, each of two heads' columns, make up the block. -/
theorem heads_canon (z : FVec Ideal S512x512 .f32) (g : Vec Ideal S1x512 .f32) (G : Fin 64 → EReal) (s : BitVec 32)
    (hg : ∀ c : Fin 512, g (ix2 0 c) = G ⟨c.val % 64, Nat.mod_lt _ (by omega)⟩) (y : S1x512x512.Idx) :
    View.canon (Val := Elt Ideal) (e := .bf16) [⟨r0_10, SEG (extractStridedSlice S512x128 ![0, 384] z slices_S512x512_o0_384_S512x128) k0_pay4 (View.ld (Val := Elt Ideal) (e' := .f32) g r0_9) s⟩,
      ⟨r0_8, SEG (extractStridedSlice S512x128 ![0, 256] z slices_S512x512_o0_256_S512x128) k0_pay4 (View.ld (Val := Elt Ideal) (e' := .f32) g r0_7) s⟩,
      ⟨r0_6, SEG (extractStridedSlice S512x128 ![0, 128] z slices_S512x512_o0_128_S512x128) k0_pay4 (View.ld (Val := Elt Ideal) (e' := .f32) g r0_5) s⟩,
      ⟨r0_4, SEG (extractStridedSlice S512x128 ![0, 0] z slices_S512x512_o0_0_S512x128) k0_pay4 (View.ld (Val := Elt Ideal) (e' := .f32) g r0_3) s⟩] y
      = headBlock z G s y := by
  refine View.canon_apply_of_pieces (Val := Elt Ideal) (headBlock z G s) _ ?_ y (cover0_18 _ _ _ _ y)
  intro p hp
  simp only [List.mem_cons, List.not_mem_nil, or_false] at hp
  have gain : ∀ (n : ℕ) (hn : n < 4) (d : Fin 128) (i : S1x512.Idx), i = ix2 0 ⟨n * 128 + d.val, by omega⟩ → g i = G ⟨d.val % 64, Nat.mod_lt _ (by omega)⟩ :=
    fun n hn d i hi => by
      rw [hi, hg]
      exact congrArg G (Fin.ext (by show (n * 128 + d.val) % 64 = d.val % 64; omega))
  rcases hp with rfl | rfl | rfl | rfl
  · intro x
    obtain ⟨a, r, d, rfl⟩ : ∃ (a : Fin 1) (r : Fin 512) (d : Fin 128), x = ix3 a r d := ⟨x 0, x 1, x 2, by blk_ext []⟩
    have e : (r0_10).emb (ix3 a r d) = ix3 0 r ⟨3 * 128 + d.val, by omega⟩ := by blk_ext []
    rw [e]
    exact seg_at _ _ s r (fun j => z (ix2 r j)) G 3 (by omega) (cols3 z r) (fun d => gain 3 (by omega) d _ (by show (r0_9).emb (ix2 0 d) = _; blk_ext [])) a d
  · intro x
    obtain ⟨a, r, d, rfl⟩ : ∃ (a : Fin 1) (r : Fin 512) (d : Fin 128), x = ix3 a r d := ⟨x 0, x 1, x 2, by blk_ext []⟩
    have e : (r0_8).emb (ix3 a r d) = ix3 0 r ⟨2 * 128 + d.val, by omega⟩ := by blk_ext []
    rw [e]
    exact seg_at _ _ s r (fun j => z (ix2 r j)) G 2 (by omega) (cols2 z r) (fun d => gain 2 (by omega) d _ (by show (r0_7).emb (ix2 0 d) = _; blk_ext [])) a d
  · intro x
    obtain ⟨a, r, d, rfl⟩ : ∃ (a : Fin 1) (r : Fin 512) (d : Fin 128), x = ix3 a r d := ⟨x 0, x 1, x 2, by blk_ext []⟩
    have e : (r0_6).emb (ix3 a r d) = ix3 0 r ⟨1 * 128 + d.val, by omega⟩ := by blk_ext []
    rw [e]
    exact seg_at _ _ s r (fun j => z (ix2 r j)) G 1 (by omega) (cols1 z r) (fun d => gain 1 (by omega) d _ (by show (r0_5).emb (ix2 0 d) = _; blk_ext [])) a d
  · intro x
    obtain ⟨a, r, d, rfl⟩ : ∃ (a : Fin 1) (r : Fin 512) (d : Fin 128), x = ix3 a r d := ⟨x 0, x 1, x 2, by blk_ext []⟩
    have e : (r0_4).emb (ix3 a r d) = ix3 0 r ⟨0 * 128 + d.val, by omega⟩ := by blk_ext []
    rw [e]
    exact seg_at _ _ s r (fun j => z (ix2 r j)) G 0 (by omega) (cols0 z r) (fun d => gain 0 (by omega) d _ (by show (r0_3).emb (ix2 0 d) = _; blk_ext [])) a d

/-- What a point leaves in the queries' buffer. -/
theorem out18_at (G : Fin 64 → EReal) (hg : ∀ c : Fin 512, x8 (ix2 0 c) = G ⟨c.val % 64, Nat.mod_lt _ (by omega)⟩) (y : S1x512x512.Idx) :
    out0_18 (F := Ideal) x0 x1 x2 x3 x4 x5 x6 x7 x8 x9 x10 x11 x12 x13 x14 x15 x16 x17 y = headBlock (k0_pay5 (F := Ideal) x0 x1 x2) G 0x3E000000#32 y := by
  rw [← pay103_eq x0 x1 x2 x3 x4 x5 x6 x7 x8 x9 x10 x11 x12 x13 x14 x15 x16 x17]
  exact heads_canon _ x8 G _ hg y

/-- What a point leaves in the keys' buffer. -/
theorem out19_at (G : Fin 64 → EReal) (hg : ∀ c : Fin 512, x9 (ix2 0 c) = G ⟨c.val % 64, Nat.mod_lt _ (by omega)⟩) (y : S1x512x512.Idx) :
    out0_19 (F := Ideal) x0 x1 x2 x3 x4 x5 x6 x7 x8 x9 x10 x11 x12 x13 x14 x15 x16 x17 y
      = headBlock (k0_pay17 (F := Ideal) (k0_pay3 x0 x1 x2)) G 0x3F800000#32 y := by
  rw [← pay101_eq x0 x1 x2 x3 x4 x5 x6 x7 x8 x9 x10 x11 x12 x13 x14 x15 x16 x17]
  exact heads_canon _ x9 G _ hg y

/-- What a point leaves in the neighbourhood values' buffer. -/
theorem out20_at (a : Fin 1) (r j : Fin 512) :
    out0_20 (F := Ideal) x0 x1 x2 x3 x4 x5 x6 x7 x8 x9 x10 x11 x12 x13 x14 x15 x16 x17 (ix3 a r j)
      = k0_pay3 (F := Ideal) x0 x1 x2 (ix2 r ⟨1024 + j.val, by omega⟩) := by
  unfold out0_20
  rw [View.canon_unit_zero (S := S1x512x512) (by decide), pay29_at, pay101_eq]

/-- The sixteen stores of a block of values, each one head's chunk of 256 rows, make up the block. -/
theorem out23_at (y : S1x8x2x64x256.Idx) :
    out0_23 (F := Ideal) x0 x1 x2 x3 x4 x5 x6 x7 x8 x9 x10 x11 x12 x13 x14 x15 x16 x17 y
      = valueBlock (k0_pay42 (F := Ideal) (k0_pay30 (k0_pay2 x0 x1) x3) x11 x7) y := by
  unfold out0_23 k0_pay122
  rw [pay115_eq]
  generalize k0_pay42 (F := Ideal) (k0_pay30 (k0_pay2 x0 x1) x3) x11 x7 = v
  refine View.canon_apply_of_pieces (Val := Elt Ideal) (valueBlock v) _ ?_ y (cover0_23 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  all_goals
    intro x
    obtain ⟨a, b, c, d, t, rfl⟩ : ∃ (a b c : Fin 1) (d : Fin 64) (t : Fin 256), x = ix5 a b c d t := ⟨x 0, x 1, x 2, x 3, x 4, by blk_ext []⟩
    pointwise [valueBlock, k0_pay1, k0_pay99, k0_pay98, k0_pay97, k0_pay96, k0_pay95, k0_pay94, k0_pay93, k0_pay92, k0_pay91, k0_pay90, k0_pay89,
      k0_pay88, k0_pay87, k0_pay86, k0_pay85, k0_pay84, k0_pay83, k0_pay82, k0_pay81]
    refine congrArg v ?_
    blk_ext []

end Cert.MixIdeal.Value

end
-- ==== Proof.MixReference.lean ====
/-
  The mixer's input as the reference computes it, entry by entry.
-/
module

public import proofs.«01_k».proof.Proof.MixMath
public import proofs.«01_k».proof.Proof.Gen.MixRefIdeal
public import Idealize.ShloMosaic.Lib.Pointwise
public import Idealize.ShloMosaic.Lib.Pipeline.ValueKit

@[expose] public section

set_option maxRecDepth 16384

noncomputable section

namespace Cert.MixRefIdeal.Layer

open Cert.MixRefIdeal Cert.MixRefIdeal.Gen Idealize.ShloMosaic Idealize.ShloMosaic.TcCoe Idealize.SL.Sem

/-- The rows' norms, projected. -/
def Z (x : FVec Ideal S4x8192x1024 .f32) (g : FVec Ideal S1024 .f32) (w : FVec Ideal S1024x2208 .f32) : FVec Ideal S4x8192x2208 .f32 :=
  Host.dotGeneral dot_S4x8192x1024_S1024x2208_S4x8192x2208_2_0_01_1_n_n none (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) w

/-- The heads' norms. -/
def HN (h : FVec Ideal S4x8192x8x64 .f32) (g : FVec Ideal S64 .f32) : FVec Ideal S4x8192x8x64 .f32 :=
  mulf (mulf h (broadcastInDim S4x8192x8x64 ![0, 1, 2, 3] bcast_S4x8192x8x1_S4x8192x8x64_0_1_2_3 (Host.rsqrt (addf (Host.divf (broadcastInDim S4x8192x8x1 ![0, 1, 2] bcast_S4x8192x8_S4x8192x8x1_0_1_2 (Host.reduceAdd (mulf h h) (constant S_ .f32 0x00000000#32) reducesTo_S4x8192x8x64_S4x8192x8_d3 h_S_)) (broadcastInDim S4x8192x8x1 ![] bcast_S_S4x8192x8x1 (constant S_ .f32 0x42800000#32))) (broadcastInDim S4x8192x8x1 ![] bcast_S_S4x8192x8x1 (constant S_ .f32 0x358637BD#32)))))) (broadcastInDim S4x8192x8x64 ![0, 1, 2, 3] bcast_S1x1x1x64_S4x8192x8x64_0_1_2_3 (broadcastInDim S1x1x1x64 ![3] bcast_S64_S1x1x1x64_3 g))

/-- The projection's first 512 columns, by heads. -/
def QH (z : FVec Ideal S4x8192x2208 .f32) : FVec Ideal S4x8192x8x64 .f32 :=
  shapeCast _ (extractStridedSlice S4x8192x512 ![0, 0, 0] z slices_S4x8192x2208_S4x8192x512_0_0_0) shapeCasts_S4x8192x512_S4x8192x8x64

/-- The projection's next 512 columns, by heads. -/
def KH (z : FVec Ideal S4x8192x2208 .f32) : FVec Ideal S4x8192x8x64 .f32 :=
  shapeCast _ (extractStridedSlice S4x8192x512 ![0, 0, 512] z slices_S4x8192x2208_S4x8192x512_0_0_512) shapeCasts_S4x8192x512_S4x8192x8x64

/-- The neighbourhood queries from the projection. -/
def QZ (z : FVec Ideal S4x8192x2208 .f32) (g : FVec Ideal S64 .f32) : FVec Ideal S4x8192x512 .bf16 :=
  truncf .bf16 (shapeCast _ (mulf (HN (QH z) g) (broadcastInDim S4x8192x8x64 ![] bcast_S_S4x8192x8x64 (constant S_ .f32 0x3E000000#32))) shapeCasts_S4x8192x8x64_S4x8192x512) bitsLt_bf16_f32

/-- The neighbourhood keys from the projection. -/
def KZ (z : FVec Ideal S4x8192x2208 .f32) (g : FVec Ideal S64 .f32) : FVec Ideal S4x8192x512 .bf16 :=
  truncf .bf16 (shapeCast _ (HN (KH z) g) shapeCasts_S4x8192x8x64_S4x8192x512) bitsLt_bf16_f32

/-- The neighbourhood values from the projection. -/
def VZ (z : FVec Ideal S4x8192x2208 .f32) : FVec Ideal S4x8192x512 .bf16 :=
  truncf .bf16 (extractStridedSlice S4x8192x512 ![0, 0, 1024] z slices_S4x8192x2208_S4x8192x512_0_0_1024) bitsLt_bf16_f32

/-- The latent columns of the projection. -/
def LZ (z : FVec Ideal S4x8192x2208 .f32) : FVec Ideal S4x8192x256 .f32 :=
  extractStridedSlice S4x8192x256 ![0, 0, 1920] z slices_S4x8192x2208_S4x8192x256_0_0_1920

/-- The latent rows' norms. -/
def LN (l : FVec Ideal S4x8192x256 .f32) (g : FVec Ideal S256 .f32) : FVec Ideal S4x8192x256 .f32 :=
  mulf (mulf l (broadcastInDim S4x8192x256 ![0, 1, 2] bcast_S4x8192x1_S4x8192x256_0_1_2 (Host.rsqrt (addf (Host.divf (broadcastInDim S4x8192x1 ![0, 1] bcast_S4x8192_S4x8192x1_0_1 (Host.reduceAdd (mulf l l) (constant S_ .f32 0x00000000#32) reducesTo_S4x8192x256_S4x8192_d2 h_S_)) (broadcastInDim S4x8192x1 ![] bcast_S_S4x8192x1 (constant S_ .f32 0x43800000#32))) (broadcastInDim S4x8192x1 ![] bcast_S_S4x8192x1 (constant S_ .f32 0x358637BD#32)))))) (broadcastInDim S4x8192x256 ![0, 1, 2] bcast_S1x1x256_S4x8192x256_0_1_2 (broadcastInDim S1x1x256 ![2] bcast_S256_S1x1x256_2 g))

/-- The latent keys and values. -/
def KV (l : FVec Ideal S4x8192x256 .f32) (g : FVec Ideal S256 .f32) (w : FVec Ideal S256x1024 .f32) : FVec Ideal S4x8192x1024 .f32 :=
  Host.dotGeneral dot_S4x8192x256_S256x1024_S4x8192x1024_2_0_01_1_n_n none (LN l g) w

/-- The values' columns of each head, transposed in chunks of 256 rows. -/
def VT (kv : FVec Ideal S4x8192x1024 .f32) : FVec Ideal S4x8x32x64x256 .bf16 :=
  truncf .bf16 (transpose S4x8x32x64x256 [0, 1, 3, 2, 4] (shapeCast _ (transpose S4x8x64x8192 [0, 2, 3, 1] (extractStridedSlice S4x8192x8x64 ![0, 0, 0, 64] (shapeCast _ kv shapeCasts_S4x8192x1024_S4x8192x8x128) slices_S4x8192x8x128_S4x8192x8x64_0_0_0_64) transposes_S4x8192x8x64_S4x8x64x8192_0_2_3_1) shapeCasts_S4x8x64x8192_S4x8x64x32x256) transposes_S4x8x64x32x256_S4x8x32x64x256_0_1_3_2_4) bitsLt_bf16_f32

/-- An entry of the projection. -/
theorem Z_at (x : FVec Ideal S4x8192x1024 .f32) (g : FVec Ideal S1024 .f32) (w : FVec Ideal S1024x2208 .f32) (b : Fin 4) (r : Fin 8192) (j : Fin 2208) :
    Z x g w (ix3 b r j) = MemoryKv.proj (fun k => x (ix3 b r k)) (fun k => g (ix1 k)) (fun k => w (ix2 k j)) := by
  pointwise [Z, MemoryKv.proj, ConvFfn.norm]

/-- An entry of a head's norm. -/
theorem HN_at (k : FVec Ideal S4x8192x8x64 .f32) (g : FVec Ideal S64 .f32) (b : Fin 4) (r : Fin 8192) (h : Fin 8) (d : Fin 64) :
    HN k g (ix4 b r h d) = MixerIn.headNorm (fun d => k (ix4 b r h d)) (fun d => g (ix1 d)) d := by
  pointwise [HN, MixerIn.headNorm]

/-- An entry of a query's head. -/
theorem QH_at (z : FVec Ideal S4x8192x2208 .f32) (b : Fin 4) (r : Fin 8192) (h : Fin 8) (d : Fin 64) :
    QH z (ix4 b r h d) = z (ix3 b r ⟨h.val * 64 + d.val, by omega⟩) := by
  pointwise [QH]

/-- An entry of a key's head. -/
theorem KH_at (z : FVec Ideal S4x8192x2208 .f32) (b : Fin 4) (r : Fin 8192) (h : Fin 8) (d : Fin 64) :
    KH z (ix4 b r h d) = z (ix3 b r ⟨512 + (h.val * 64 + d.val), by omega⟩) := by
  pointwise [KH]

/-- A neighbourhood query. -/
theorem q_at (z : FVec Ideal S4x8192x2208 .f32) (g : FVec Ideal S64 .f32) (b : Fin 4) (r : Fin 8192) (c : Fin 512) :
    QZ z g (ix3 b r c)
      = MixerIn.headed (fun j => z (ix3 b r ⟨j.val, by omega⟩)) (fun d => g (ix1 d)) c * Ideal.ofBits .f32 0x3E000000#32 := by
  have e : QZ z g (ix3 b r c) = HN (QH z) g (ix4 b r ⟨c.val / 64, by omega⟩ ⟨c.val % 64, Nat.mod_lt _ (by omega)⟩) * Ideal.ofBits .f32 0x3E000000#32 := by
    unfold QZ
    generalize HN (QH z) g = y
    pointwise []
  rw [e, HN_at]
  simp only [QH_at]
  rfl

/-- A neighbourhood key. -/
theorem k_at (z : FVec Ideal S4x8192x2208 .f32) (g : FVec Ideal S64 .f32) (b : Fin 4) (r : Fin 8192) (c : Fin 512) :
    KZ z g (ix3 b r c) = MixerIn.headed (fun j => z (ix3 b r ⟨512 + j.val, by omega⟩)) (fun d => g (ix1 d)) c := by
  have e : KZ z g (ix3 b r c) = HN (KH z) g (ix4 b r ⟨c.val / 64, by omega⟩ ⟨c.val % 64, Nat.mod_lt _ (by omega)⟩) := by
    unfold KZ
    generalize HN (KH z) g = y
    pointwise []
  rw [e, HN_at]
  simp only [KH_at]
  rfl

/-- A neighbourhood value. -/
theorem v_at (z : FVec Ideal S4x8192x2208 .f32) (b : Fin 4) (r : Fin 8192) (c : Fin 512) :
    VZ z (ix3 b r c) = z (ix3 b r ⟨1024 + c.val, by omega⟩) := by
  pointwise [VZ]

/-- An entry of the latent rows. -/
theorem LZ_at (z : FVec Ideal S4x8192x2208 .f32) (b : Fin 4) (r : Fin 8192) (c : Fin 256) :
    LZ z (ix3 b r c) = z (ix3 b r ⟨1920 + c.val, by omega⟩) := by
  pointwise [LZ]

/-- An entry of the latent keys and values. -/
theorem KV_at (l : FVec Ideal S4x8192x256 .f32) (g : FVec Ideal S256 .f32) (w : FVec Ideal S256x1024 .f32) (b : Fin 4) (r : Fin 8192) (j : Fin 1024) :
    KV l g w (ix3 b r j) = MixerIn.value (fun k => l (ix3 b r k)) (fun k => g (ix1 k)) (fun k => w (ix2 k j)) := by
  pointwise [KV, LN, MixerIn.value, MixerIn.latNorm]

/-- An entry of the transposed values. -/
theorem VT_at (kv : FVec Ideal S4x8192x1024 .f32) (b : Fin 4) (h : Fin 8) (c : Fin 32) (d : Fin 64) (t : Fin 256) :
    VT kv (ix5 b h c d t) = kv (ix3 b ⟨c.val * 256 + t.val, by omega⟩ ⟨h.val * 128 + (64 + d.val), by omega⟩) := by
  pointwise [VT]

end Cert.MixRefIdeal.Layer

end
-- ==== Proof.MixBlocks.lean ====
/-
  The blocks of the mixer's input kernel: what a grid point reads, and its blocks against the reference's entries.
-/
module

public import proofs.«01_k».proof.Proof.MixValue
public import proofs.«01_k».proof.Proof.MixReference
public import Idealize.ShloMosaic.Lib.StableHlo.RunRead

@[expose] public section

set_option maxRecDepth 16384

noncomputable section

namespace Cert.MixIdeal.Value

open Cert.MixIdeal Cert.MixIdeal.Gen Idealize.ShloMosaic Idealize.ShloMosaic.TcCoe Idealize.SL.Sem
open Idealize.ShloMosaic.Pipeline (Dat)
open MixerIn MemoryKv
open Cert.MixRefIdeal.Layer (Z QZ KZ VZ LZ KV VT Z_at q_at k_at v_at LZ_at KV_at VT_at)

variable (m : (ℓ : Loc nD τ sig) → Buf (Elt Ideal) ℓ)

/-- The blocks a grid point reads and writes: sequence `t / 16`, row tile `t % 16`. -/
theorem idx : ∀ t : Fin cfg0.N, win0_0.index t = ![t.val / 16, t.val % 16, 0] ∧ win0_1.index t = ![0, 0] ∧ win0_2.index t = ![0, 0]
    ∧ win0_3.index t = ![0, 0] ∧ win0_7.index t = ![0, 0] ∧ win0_8.index t = ![0, 0] ∧ win0_9.index t = ![0, 0] ∧ win0_11.index t = ![0, 0]
    ∧ win0_18.index t = ![t.val / 16, t.val % 16, 0] ∧ win0_19.index t = ![t.val / 16, t.val % 16, 0]
    ∧ win0_20.index t = ![t.val / 16, t.val % 16, 0] ∧ win0_23.index t = ![t.val / 16, 0, t.val % 16, 0, 0] :=
  (by decide +kernel : ∀ t : Fin grid0.N, _)

/-- There are 64 points. -/
theorem lt_N (t : Fin cfg0.N) : t.val < 64 := lt_of_lt_of_eq t.isLt N_0

/-- The point's sequence. -/
def seq (t : Fin cfg0.N) : Fin 4 := ⟨t.val / 16, by have := lt_N t; omega⟩

/-- Row `r` of the point's tile. -/
def row (t : Fin cfg0.N) (r : Fin 512) : Fin 8192 := ⟨t.val % 16 * 512 + r.val, by omega⟩

/-- The rows. -/
theorem blk0 (c : Dev nD) (t : Fin cfg0.N) (r : Fin 512) (j : Fin 1024) :
    iblk m c 0 t (ix3 0 r j) = m ((c : Thread nD τ).loc main_arg0) (ix3 (seq t) (row t r) j) := by
  refine congrArg (m ((c : Thread nD τ).loc main_arg0)) (a₁ := ((View.whole main_arg0).slice (win0_0.rect t)).emb _) ?_
  blk_ext [idx t, seq, row]

/-- The rows' gain. -/
theorem blk1 (c : Dev nD) (t : Fin cfg0.N) (j : Fin 1024) :
    iblk m c 1 t (ix2 0 j) = m ((c : Thread nD τ).loc main_arg1) (ix1 j) := by
  blk_simp [iblk, idx t]
  have ej : ((View.whole main_v112).slice (win0_1.rect t)).emb (ix2 0 j) = ix2 0 j := by blk_ext [idx t]
  rw [ej]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil,
    List.append_nil, List.cons_append, List.nil_append]
  after_reads_simp
  pointwise []

/-- The neighbourhood heads' weights. -/
theorem blk2 (c : Dev nD) (t : Fin cfg0.N) (k : Fin 1024) (j : Fin 1536) :
    iblk m c 2 t (ix2 k j) = m ((c : Thread nD τ).loc main_arg2) (ix2 k ⟨j.val, by omega⟩) := by
  blk_simp [iblk, idx t]
  have ej : ((View.whole main_v81).slice (win0_2.rect t)).emb (ix2 k j) = ix2 k j := by blk_ext [idx t]
  rw [ej]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil,
    List.append_nil, List.cons_append, List.nil_append]
  after_reads_simp
  pointwise []

/-- The latent columns' weights. -/
theorem blk3 (c : Dev nD) (t : Fin cfg0.N) (k : Fin 1024) (j : Fin 256) :
    iblk m c 3 t (ix2 k ⟨384 + j.val, by omega⟩) = m ((c : Thread nD τ).loc main_arg2) (ix2 k ⟨1920 + j.val, by omega⟩) := by
  blk_simp [iblk, idx t]
  have ej : ((View.whole main_v82).slice (win0_3.rect t)).emb (ix2 k ⟨384 + j.val, by omega⟩) = ix2 k ⟨384 + j.val, by omega⟩ := by blk_ext [idx t]
  rw [ej]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil,
    List.append_nil, List.cons_append, List.nil_append]
  after_reads_simp
  pointwise []
  rw [dif_pos (show 384 + j.val < 640 by omega)]
  after_reads_simp
  pointwise []
  exact congrArg (fun i => m ((c : Thread nD τ).loc main_arg2) (ix2 k i)) (Fin.ext (show 1536 + (384 + j.val) = 1920 + j.val by omega))

/-- The latent values' weights. -/
theorem blk7 (c : Dev nD) (t : Fin cfg0.N) (k : Fin 256) (j : Fin 512) :
    iblk m c 7 t (ix2 k j) = m ((c : Thread nD τ).loc main_arg8) (ix2 k ⟨j.val / 64 * 128 + (64 + j.val % 64), by omega⟩) := by
  blk_simp [iblk, idx t]
  have ej : ((View.whole main_v101).slice (win0_7.rect t)).emb (ix2 k j) = ix2 k j := by blk_ext [idx t]
  rw [ej]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil,
    List.append_nil, List.cons_append, List.nil_append]
  after_reads_simp
  pointwise []

/-- The queries' gain, once for each head. -/
theorem blk8 (c : Dev nD) (t : Fin cfg0.N) (j : Fin 512) :
    iblk m c 8 t (ix2 0 j) = m ((c : Thread nD τ).loc main_arg3) (ix1 ⟨j.val % 64, Nat.mod_lt _ (by omega)⟩) := by
  blk_simp [iblk, idx t]
  have ej : ((View.whole main_v105).slice (win0_8.rect t)).emb (ix2 0 j) = ix2 0 j := by blk_ext [idx t]
  rw [ej]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil,
    List.append_nil, List.cons_append, List.nil_append]
  after_reads_simp
  pointwise []

/-- The keys' gain, once for each head. -/
theorem blk9 (c : Dev nD) (t : Fin cfg0.N) (j : Fin 512) :
    iblk m c 9 t (ix2 0 j) = m ((c : Thread nD τ).loc main_arg4) (ix1 ⟨j.val % 64, Nat.mod_lt _ (by omega)⟩) := by
  blk_simp [iblk, idx t]
  have ej : ((View.whole main_v109).slice (win0_9.rect t)).emb (ix2 0 j) = ix2 0 j := by blk_ext [idx t]
  rw [ej]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil,
    List.append_nil, List.cons_append, List.nil_append]
  after_reads_simp
  pointwise []

/-- The latent rows' gain. -/
theorem blk11 (c : Dev nD) (t : Fin cfg0.N) (j : Fin 256) :
    iblk m c 11 t (ix2 0 j) = m ((c : Thread nD τ).loc main_arg6) (ix1 j) := by
  blk_simp [iblk, idx t]
  have ej : ((View.whole main_v111).slice (win0_11.rect t)).emb (ix2 0 j) = ix2 0 j := by blk_ext [idx t]
  rw [ej]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil,
    List.append_nil, List.cons_append, List.nil_append]
  after_reads_simp
  pointwise []

/-- The reference's projection of the kernel's arguments. -/
def ZM (c : Dev nD) : FVec Ideal Cert.MixRefIdeal.S4x8192x2208 .f32 :=
  Z (m ((c : Thread nD τ).loc main_arg0)) (m ((c : Thread nD τ).loc main_arg1)) (m ((c : Thread nD τ).loc main_arg2))

/-- The block's projection to the neighbourhood heads is the reference's. -/
theorem heads_eq (c : Dev nD) (t : Fin cfg0.N) (r : Fin 512) (j : Fin 1536) :
    k0_pay3 (F := Ideal) (iblk m c 0 t) (iblk m c 1 t) (iblk m c 2 t) (ix2 r j) = ZM m c (ix3 (seq t) (row t r) ⟨j.val, by omega⟩) := by
  refine (pay3_at _ _ _ r j).trans ((Eq.symm (Z_at _ _ _ _ _ _)).symm.trans ?_).symm
  congr 1
  · exact funext fun k => (blk0 m c t r k).symm
  · exact funext fun k => (blk1 m c t k).symm
  · exact funext fun k => (blk2 m c t k j).symm

/-- The block's projection to the latent columns is the reference's. -/
theorem latent_eq (c : Dev nD) (t : Fin cfg0.N) (r : Fin 512) (j : Fin 256) :
    k0_pay30 (F := Ideal) (k0_pay2 (iblk m c 0 t) (iblk m c 1 t)) (iblk m c 3 t) (ix2 r ⟨384 + j.val, by omega⟩)
      = ZM m c (ix3 (seq t) (row t r) ⟨1920 + j.val, by omega⟩) := by
  refine (pay30_at _ _ _ r _).trans ((Z_at _ _ _ _ _ _).trans ?_).symm
  congr 1
  · exact funext fun k => (blk0 m c t r k).symm
  · exact funext fun k => (blk1 m c t k).symm
  · exact funext fun k => (blk3 m c t k j).symm

/-- A grid point's queries are the reference's. -/
theorem point_queries (c : Dev nD) (t : Fin cfg0.N) (a : Fin 1) (r q : Fin 512) :
    headBlock (k0_pay5 (F := Ideal) (iblk m c 0 t) (iblk m c 1 t) (iblk m c 2 t)) (fun d => m ((c : Thread nD τ).loc main_arg3) (ix1 d)) 0x3E000000#32 (ix3 a r q)
      = QZ (ZM m c) (m ((c : Thread nD τ).loc main_arg3)) (ix3 (seq t) (row t r) q) := by
  rw [headBlock_at, q_at, funext fun j => (pay5_at _ _ _ r j).trans (heads_eq m c t r _)]

/-- A grid point's keys are the reference's. -/
theorem point_keys (c : Dev nD) (t : Fin cfg0.N) (a : Fin 1) (r q : Fin 512) :
    headBlock (k0_pay17 (F := Ideal) (k0_pay3 (iblk m c 0 t) (iblk m c 1 t) (iblk m c 2 t))) (fun d => m ((c : Thread nD τ).loc main_arg4) (ix1 d)) 0x3F800000#32 (ix3 a r q)
      = KZ (ZM m c) (m ((c : Thread nD τ).loc main_arg4)) (ix3 (seq t) (row t r) q) := by
  rw [headBlock_at, lit_one, mul_one, k_at, funext fun j => (pay17_at _ r j).trans (heads_eq m c t r _)]

/-- A grid point's latent values are the reference's. -/
theorem point_latent (c : Dev nD) (t : Fin cfg0.N) (a : Fin 1) (h : Fin 8) (n : Fin 2) (d : Fin 64) (s : Fin 256) :
    valueBlock (k0_pay42 (F := Ideal) (k0_pay30 (k0_pay2 (iblk m c 0 t) (iblk m c 1 t)) (iblk m c 3 t)) (iblk m c 11 t) (iblk m c 7 t)) (ix5 a h n d s)
      = VT (KV (LZ (ZM m c)) (m ((c : Thread nD τ).loc main_arg6)) (m ((c : Thread nD τ).loc main_arg8)))
          (ix5 (seq t) h ⟨t.val % 16 * 2 + n.val, by omega⟩ d s) := by
  have er : (⟨(t.val % 16 * 2 + n.val) * 256 + s.val, by omega⟩ : Fin 8192) = row t ⟨n.val * 256 + s.val, by omega⟩ := Fin.ext (by
    show (t.val % 16 * 2 + n.val) * 256 + s.val = t.val % 16 * 512 + (n.val * 256 + s.val)
    omega)
  have el : (fun k : Fin 256 => k0_pay30 (F := Ideal) (k0_pay2 (iblk m c 0 t) (iblk m c 1 t)) (iblk m c 3 t) (ix2 ⟨n.val * 256 + s.val, by omega⟩ ⟨384 + k.val, by omega⟩))
      = fun k => LZ (ZM m c) (ix3 (seq t) (row t ⟨n.val * 256 + s.val, by omega⟩) k) :=
    funext fun k => (latent_eq m c t _ k).trans (LZ_at _ _ _ _).symm
  have eg : (fun k : Fin 256 => iblk m c 11 t (ix2 0 k)) = fun k => m ((c : Thread nD τ).loc main_arg6) (ix1 k) := funext fun k => blk11 m c t k
  have ew : (fun k : Fin 256 => iblk m c 7 t (ix2 k ⟨h.val * 64 + d.val, by omega⟩))
      = fun k => m ((c : Thread nD τ).loc main_arg8) (ix2 k ⟨h.val * 128 + (64 + d.val), by omega⟩) := by
    refine funext fun k => (blk7 m c t k _).trans ?_
    refine congrArg (fun i => m ((c : Thread nD τ).loc main_arg8) (ix2 k i)) (Fin.ext ?_)
    show (h.val * 64 + d.val) / 64 * 128 + (64 + (h.val * 64 + d.val) % 64) = h.val * 128 + (64 + d.val)
    omega
  rw [valueBlock_at, pay42_at, VT_at, KV_at, er, el, eg, ew]

end Cert.MixIdeal.Value

end
-- ==== Proof.MixFinal.lean ====
/-
  The four arrays of the mixer's input kernel are the reference's results.
-/
module

public import proofs.«01_k».proof.Proof.MixBlocks

@[expose] public section

set_option maxRecDepth 16384

noncomputable section

namespace Cert.MixIdeal.Value

open Cert.MixIdeal Cert.MixIdeal.Gen Idealize.ShloMosaic Idealize.ShloMosaic.TcCoe Idealize.SL.Sem
open Idealize.ShloMosaic.Pipeline (Dat)
open MixerIn MemoryKv
open Cert.MixRefIdeal.Layer (Z QZ KZ VZ LZ KV VT Z_at q_at k_at v_at LZ_at KV_at VT_at)

variable (m : (ℓ : Loc nD τ sig) → Buf (Elt Ideal) ℓ)

/-- THE NEIGHBOURHOOD QUERIES: the first array the kernel leaves is the reference's. -/
theorem final_queries (c : Dev nD) :
    (dats m 0 c).arrAt 18 (cfgs 0).N = QZ (ZM m c) (m ((c : Thread nD τ).loc main_arg3)) := by
  refine (dats m 0 c).arrAt_eq_of_covers 18 _ (by decide +kernel) fun t hf y => ?_
  blk_simp
  obtain ⟨a, r, q, rfl⟩ : ∃ (a : Fin 1) (r q : Fin 512), y = ix3 a r q := ⟨y 0, y 1, y 2, by blk_ext []⟩
  have ej : ((View.whole main_v113_0).slice (win0_18.rect t)).emb (ix3 a r q) = ix3 (seq t) (row t r) q := by
    blk_ext [idx t, seq, row]
  rw [ej, after0_18]
  exact (out18_at _ _ _ _ _ _ _ _ _ _ _ _ _ _ _ _ _ _ (fun d => m ((c : Thread nD τ).loc main_arg3) (ix1 d)) (blk8 m c t) _).trans (point_queries m c t a r q)

/-- THE NEIGHBOURHOOD KEYS: the second array the kernel leaves is the reference's. -/
theorem final_keys (c : Dev nD) :
    (dats m 0 c).arrAt 19 (cfgs 0).N = KZ (ZM m c) (m ((c : Thread nD τ).loc main_arg4)) := by
  refine (dats m 0 c).arrAt_eq_of_covers 19 _ (by decide +kernel) fun t hf y => ?_
  blk_simp
  obtain ⟨a, r, q, rfl⟩ : ∃ (a : Fin 1) (r q : Fin 512), y = ix3 a r q := ⟨y 0, y 1, y 2, by blk_ext []⟩
  have ej : ((View.whole main_v113_1).slice (win0_19.rect t)).emb (ix3 a r q) = ix3 (seq t) (row t r) q := by
    blk_ext [idx t, seq, row]
  rw [ej, after0_19]
  exact (out19_at _ _ _ _ _ _ _ _ _ _ _ _ _ _ _ _ _ _ (fun d => m ((c : Thread nD τ).loc main_arg4) (ix1 d)) (blk9 m c t) _).trans (point_keys m c t a r q)

/-- THE NEIGHBOURHOOD VALUES: the third array the kernel leaves is the reference's. -/
theorem final_values (c : Dev nD) : (dats m 0 c).arrAt 20 (cfgs 0).N = VZ (ZM m c) := by
  refine (dats m 0 c).arrAt_eq_of_covers 20 _ (by decide +kernel) fun t hf y => ?_
  blk_simp
  obtain ⟨a, r, q, rfl⟩ : ∃ (a : Fin 1) (r q : Fin 512), y = ix3 a r q := ⟨y 0, y 1, y 2, by blk_ext []⟩
  have ej : ((View.whole main_v113_2).slice (win0_20.rect t)).emb (ix3 a r q) = ix3 (seq t) (row t r) q := by
    blk_ext [idx t, seq, row]
  rw [ej, after0_20]
  exact (out20_at _ _ _ _ _ _ _ _ _ _ _ _ _ _ _ _ _ _ a r q).trans ((heads_eq m c t r _).trans (v_at _ _ _ _).symm)

/-- THE LATENT VALUES: the fourth array the kernel leaves, transposed by heads in chunks of 256 rows, is the
    reference's. -/
theorem final_latent (c : Dev nD) :
    (dats m 0 c).arrAt 23 (cfgs 0).N
      = VT (KV (LZ (ZM m c)) (m ((c : Thread nD τ).loc main_arg6)) (m ((c : Thread nD τ).loc main_arg8))) := by
  refine (dats m 0 c).arrAt_eq_of_covers 23 _ (by decide +kernel) fun t hf y => ?_
  blk_simp
  obtain ⟨a, h, n, d, s, rfl⟩ : ∃ (a : Fin 1) (h : Fin 8) (n : Fin 2) (d : Fin 64) (s : Fin 256), y = ix5 a h n d s :=
    ⟨y 0, y 1, y 2, y 3, y 4, by blk_ext []⟩
  have ej : ((View.whole main_v113_5).slice (win0_23.rect t)).emb (ix5 a h n d s) = ix5 (seq t) h ⟨t.val % 16 * 2 + n.val, by omega⟩ d s := by
    blk_ext [idx t, seq]
  rw [ej, after0_23]
  exact (out23_at _ _ _ _ _ _ _ _ _ _ _ _ _ _ _ _ _ _ _).trans (point_latent m c t a h n d s)

/-- The kernel's run, over the reference's terms: it ends with the four results the reference has, its arguments as they
    were. -/
theorem run_results (g : Dev nD → PrngReg) : θ_run defs (onTc (τ := τ) (main (F := Ideal))) ⟨m, fun _ => 0, g⟩ (fun r => ∀ c : Dev nD,
      r.2.mem ((c.tc : Thread nD τ).loc main_v113_0) = QZ (ZM m c) (m ((c : Thread nD τ).loc main_arg3))
      ∧ r.2.mem ((c.tc : Thread nD τ).loc main_v113_1) = KZ (ZM m c) (m ((c : Thread nD τ).loc main_arg4))
      ∧ r.2.mem ((c.tc : Thread nD τ).loc main_v113_2) = VZ (ZM m c)
      ∧ r.2.mem ((c.tc : Thread nD τ).loc main_v113_5)
          = VT (KV (LZ (ZM m c)) (m ((c : Thread nD τ).loc main_arg6)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  θ_run_mono (θ_run_and (unchanged m g) (run_main m g)) fun r h c => ⟨((h.2 c).1 18).trans (final_queries m c),
    ((h.2 c).1 19).trans (final_keys m c), ((h.2 c).1 20).trans (final_values m c), ((h.2 c).1 23).trans (final_latent m c), h.1 c⟩

end Cert.MixIdeal.Value

end
-- ==== Proof.MixClaims.lean ====
/- The claims about the mixer's input kernel: the frames, and the value claim assembled from the kernel's final arrays
   (`MixFinal`) and the reference's composed terms. -/
module

public import proofs.«01_k».proof.Defs
public import proofs.«01_k».proof.Proof.MixFinal
public import proofs.«01_k».proof.Proof.Gen.Mix.Frame
public import proofs.«01_k».proof.Proof.Gen.MixIdeal.Frame
public import proofs.«01_k».proof.Proof.Gen.MixRefIdeal.Run
public import Idealize.ShloMosaic.Lib.Claim
public import Idealize.ShloMosaic.Lib.Quiescent

@[expose] public section

set_option maxRecDepth 16384

noncomputable section

namespace Cert.Proof

open Idealize.ShloMosaic Idealize.SL.Sem Cert.Mix

/-- The mixer's input kernel, as written, leaves its arguments as they were and every semaphore at zero. -/
theorem frame_Mix : Cert.quiescent_Mix := fun m ρ _ => Cert.Mix.Gen.frame m ρ

/-- The same of the kernel read at the extended reals. -/
theorem frame_MixIdeal : Cert.quiescent_MixIdeal := fun m ρ _ => Cert.MixIdeal.Gen.frame m ρ

set_option maxHeartbeats 3200000 in
/-- The reference leaves its arguments as they were and every semaphore at zero. -/
theorem frame_MixRefIdeal : Cert.quiescent_MixRefIdeal := by
  intro m g _
  hlo_run
  · exact fun _ => ⟨trivial, trivial, trivial, trivial, trivial, trivial, trivial, trivial, trivial, trivial, trivial⟩
  · exact sem_eq_zero_of_no_sems (by decide) _

set_option maxHeartbeats 6400000 in
/-- The kernel's four results are the reference's, entry by entry. -/
theorem algebraic_Mix : Cert.algebraic_MixIdeal_MixRefIdeal := by
  pair_intro
  · run_from Cert.MixIdeal.Value.run_results m g
  · run_from Cert.MixRefIdeal.Value.run m' g'
    · rfl
    · rfl
    · rfl
    · rfl

end Cert.Proof

end
-- ==== Proof.lean ====
/- The certificate: the claims about each call, assembled. -/
module

public import proofs.«01_k».proof.Defs
public import proofs.«01_k».proof.Proof.Gen.MlaIdeal.Value
public import proofs.«01_k».proof.Proof.Gen.MlaRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.MemKv.Frame
public import proofs.«01_k».proof.Proof.Gen.MemKvIdeal.Value
public import proofs.«01_k».proof.Proof.Gen.MemKvRefIdeal.Run
public import proofs.«01_k».proof.Proof.MlaClaims
public import proofs.«01_k».proof.Proof.FfnClaims
public import proofs.«01_k».proof.Proof.MemKvClaims
public import proofs.«01_k».proof.Proof.PostClaims
public import proofs.«01_k».proof.Proof.MixClaims
public import proofs.«01_k».proof.Proof.Gen.Mix.Frame
public import proofs.«01_k».proof.Proof.Gen.MixIdeal.Frame
public import proofs.«01_k».proof.Proof.Gen.MixRefIdeal.Run
public import proofs.«01_k».proof.Proof.Gen.Mix
public import proofs.«01_k».proof.Proof.Gen.MixIdeal
public import proofs.«01_k».proof.Proof.Gen.MixRefIdeal
public import proofs.«01_k».proof.Proof.Gen.Mla
public import proofs.«01_k».proof.Proof.Gen.MlaIdeal
public import proofs.«01_k».proof.Proof.Gen.MlaRefIdeal
public import proofs.«01_k».proof.Proof.Gen.Ffn
public import proofs.«01_k».proof.Proof.Gen.FfnIdeal
public import proofs.«01_k».proof.Proof.Gen.FfnRefIdeal
public import proofs.«01_k».proof.Proof.Gen.MemKv
public import proofs.«01_k».proof.Proof.Gen.MemKvIdeal
public import proofs.«01_k».proof.Proof.Gen.MemKvRefIdeal
public import proofs.«01_k».proof.Proof.Gen.Pre_mla_finite
public import proofs.«01_k».proof.Proof.Gen.Post.Frame
public import proofs.«01_k».proof.Proof.Gen.PostIdeal.Frame
public import proofs.«01_k».proof.Proof.Gen.Post
public import proofs.«01_k».proof.Proof.Gen.PostIdeal
public import proofs.«01_k».proof.Proof.Gen.PostRefIdeal
public import proofs.«01_k».proof.Proof.Gen.Pre_post_finite

@[expose] public section

noncomputable section

namespace Cert.Proof

/-- Every claim of the certificate. -/
theorem claim : Cert.Claim := ⟨Cert.Mla.Gen.facts, Cert.MlaIdeal.Gen.facts, Cert.MlaRefIdeal.Gen.facts,
  Cert.Ffn.Gen.facts, Cert.FfnIdeal.Gen.facts, Cert.FfnRefIdeal.Gen.facts,
  Cert.MemKv.Gen.facts, Cert.MemKvIdeal.Gen.facts, Cert.MemKvRefIdeal.Gen.facts,
  Cert.Post.Gen.facts, Cert.PostIdeal.Gen.facts, Cert.PostRefIdeal.Gen.facts,
  Cert.Mix.Gen.facts, Cert.MixIdeal.Gen.facts, Cert.MixRefIdeal.Gen.facts, Cert.Pre_mla_finite.Gen.facts, Cert.Pre_post_finite.Gen.facts,
  frame_Mla, frame_MlaIdeal, frame_MlaIdeal_finite, frame_MlaRefIdeal, frame_MlaRefIdeal_finite,
  frame_Ffn, frame_FfnIdeal, frame_FfnRefIdeal, frame_MemKv, frame_MemKvIdeal, frame_MemKvRefIdeal,
  frame_Post, frame_PostIdeal, frame_PostIdeal_finite, frame_PostRefIdeal, frame_PostRefIdeal_finite,
  frame_Mix, frame_MixIdeal, frame_MixRefIdeal,
  trivial, algebraic_Mla, trivial, algebraic_Ffn, trivial, algebraic_MemKv, trivial, algebraic_Post,
  trivial, algebraic_Mix⟩

end Cert.Proof

end
